-- ==== Defs.lean ====
def Pre_Kernel [hPre_rolled_by_1_Kernel : Cert.Pre_rolled_by_1_Kernel.Facts] (m : (ℓ : Loc Cert.Kernel.nD Cert.Kernel.τ Cert.Kernel.sig) → Buf (Elt Bits) ℓ) : Prop :=
  ∀ c : Dev Cert.Kernel.nD,
    (Cert.Pre_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_2_Kernel [hPre_rolled_by_2_Kernel : Cert.Pre_rolled_by_2_Kernel.Facts] (m : (ℓ : Loc Cert.Kernel.nD Cert.Kernel.τ Cert.Kernel.sig) → Buf (Elt Bits) ℓ) : Prop :=
  ∀ c : Dev Cert.Kernel.nD,
    (Cert.Pre_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_3_Kernel [hPre_rolled_by_3_Kernel : Cert.Pre_rolled_by_3_Kernel.Facts] (m : (ℓ : Loc Cert.Kernel.nD Cert.Kernel.τ Cert.Kernel.sig) → Buf (Elt Bits) ℓ) : Prop :=
  ∀ c : Dev Cert.Kernel.nD,
    (Cert.Pre_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_4_Kernel [hPre_rolled_by_4_Kernel : Cert.Pre_rolled_by_4_Kernel.Facts] (m : (ℓ : Loc Cert.Kernel.nD Cert.Kernel.τ Cert.Kernel.sig) → Buf (Elt Bits) ℓ) : Prop :=
  ∀ c : Dev Cert.Kernel.nD,
    (Cert.Pre_rolled_by_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_5_Kernel [hPre_rolled_by_5_Kernel : Cert.Pre_rolled_by_5_Kernel.Facts] (m : (ℓ : Loc Cert.Kernel.nD Cert.Kernel.τ Cert.Kernel.sig) → Buf (Elt Bits) ℓ) : Prop :=
  ∀ c : Dev Cert.Kernel.nD,
    (Cert.Pre_rolled_by_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_6_Kernel [hPre_rolled_by_6_Kernel : Cert.Pre_rolled_by_6_Kernel.Facts] (m : (ℓ : Loc Cert.Kernel.nD Cert.Kernel.τ Cert.Kernel.sig) → Buf (Elt Bits) ℓ) : Prop :=
  ∀ c : Dev Cert.Kernel.nD,
    (Cert.Pre_rolled_by_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_7_Kernel [hPre_rolled_by_7_Kernel : Cert.Pre_rolled_by_7_Kernel.Facts] (m : (ℓ : Loc Cert.Kernel.nD Cert.Kernel.τ Cert.Kernel.sig) → Buf (Elt Bits) ℓ) : Prop :=
  ∀ c : Dev Cert.Kernel.nD,
    (Cert.Pre_rolled_by_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_by_1_Kernel : Cert.Pre_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_2_Kernel [hPre_rolled_by_2_Kernel : Cert.Pre_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_3_Kernel [hPre_rolled_by_3_Kernel : Cert.Pre_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_4_Kernel [hPre_rolled_by_4_Kernel : Cert.Pre_rolled_by_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_5_Kernel [hPre_rolled_by_5_Kernel : Cert.Pre_rolled_by_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_6_Kernel [hPre_rolled_by_6_Kernel : Cert.Pre_rolled_by_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_7_Kernel [hPre_rolled_by_7_Kernel : Cert.Pre_rolled_by_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_by_1_ReferenceIdeal [hPre_rolled_by_1_ReferenceIdeal : Cert.Pre_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_2_ReferenceIdeal [hPre_rolled_by_2_ReferenceIdeal : Cert.Pre_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_3_ReferenceIdeal [hPre_rolled_by_3_ReferenceIdeal : Cert.Pre_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_4_ReferenceIdeal [hPre_rolled_by_4_ReferenceIdeal : Cert.Pre_rolled_by_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_5_ReferenceIdeal [hPre_rolled_by_5_ReferenceIdeal : Cert.Pre_rolled_by_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_6_ReferenceIdeal [hPre_rolled_by_6_ReferenceIdeal : Cert.Pre_rolled_by_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_7_ReferenceIdeal [hPre_rolled_by_7_ReferenceIdeal : Cert.Pre_rolled_by_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_by_1_Kernel : Cert.Pre_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_2_Kernel [hKernel : Cert.Kernel.Facts] [hPre_rolled_by_2_Kernel : Cert.Pre_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_3_Kernel [hKernel : Cert.Kernel.Facts] [hPre_rolled_by_3_Kernel : Cert.Pre_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_4_Kernel [hKernel : Cert.Kernel.Facts] [hPre_rolled_by_4_Kernel : Cert.Pre_rolled_by_4_Kernel.Facts] : Prop :=
  ∀ (m : (ℓ : Loc Cert.Kernel.nD Cert.Kernel.τ Cert.Kernel.sig) → Buf (Elt Bits) ℓ) (g : Dev Cert.Kernel.nD → PrngReg), Pre_Kernel_rolled_by_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_5_Kernel [hKernel : Cert.Kernel.Facts] [hPre_rolled_by_5_Kernel : Cert.Pre_rolled_by_5_Kernel.Facts] : Prop :=
  ∀ (m : (ℓ : Loc Cert.Kernel.nD Cert.Kernel.τ Cert.Kernel.sig) → Buf (Elt Bits) ℓ) (g : Dev Cert.Kernel.nD → PrngReg), Pre_Kernel_rolled_by_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_6_Kernel [hKernel : Cert.Kernel.Facts] [hPre_rolled_by_6_Kernel : Cert.Pre_rolled_by_6_Kernel.Facts] : Prop :=
  ∀ (m : (ℓ : Loc Cert.Kernel.nD Cert.Kernel.τ Cert.Kernel.sig) → Buf (Elt Bits) ℓ) (g : Dev Cert.Kernel.nD → PrngReg), Pre_Kernel_rolled_by_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_7_Kernel [hKernel : Cert.Kernel.Facts] [hPre_rolled_by_7_Kernel : Cert.Pre_rolled_by_7_Kernel.Facts] : Prop :=
  ∀ (m : (ℓ : Loc Cert.Kernel.nD Cert.Kernel.τ Cert.Kernel.sig) → Buf (Elt Bits) ℓ) (g : Dev Cert.Kernel.nD → PrngReg), Pre_Kernel_rolled_by_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_2_Kernel [hKernelIdeal : Cert.KernelIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_3_Kernel [hKernelIdeal : Cert.KernelIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_4_Kernel [hKernelIdeal : Cert.KernelIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_5_Kernel [hKernelIdeal : Cert.KernelIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_6_Kernel [hKernelIdeal : Cert.KernelIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_7_Kernel [hKernelIdeal : Cert.KernelIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_1_ReferenceIdeal [hReferenceIdeal : Cert.ReferenceIdeal.Facts] [hPre_rolled_by_1_ReferenceIdeal : Cert.Pre_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_2_ReferenceIdeal [hReferenceIdeal : Cert.ReferenceIdeal.Facts] [hPre_rolled_by_2_ReferenceIdeal : Cert.Pre_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_3_ReferenceIdeal [hReferenceIdeal : Cert.ReferenceIdeal.Facts] [hPre_rolled_by_3_ReferenceIdeal : Cert.Pre_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_4_ReferenceIdeal [hReferenceIdeal : Cert.ReferenceIdeal.Facts] [hPre_rolled_by_4_ReferenceIdeal : Cert.Pre_rolled_by_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_5_ReferenceIdeal [hReferenceIdeal : Cert.ReferenceIdeal.Facts] [hPre_rolled_by_5_ReferenceIdeal : Cert.Pre_rolled_by_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_6_ReferenceIdeal [hReferenceIdeal : Cert.ReferenceIdeal.Facts] [hPre_rolled_by_6_ReferenceIdeal : Cert.Pre_rolled_by_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_7_ReferenceIdeal [hReferenceIdeal : Cert.ReferenceIdeal.Facts] [hPre_rolled_by_7_ReferenceIdeal : Cert.Pre_rolled_by_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_2_Kernel [hKernelIdeal : Cert.KernelIdeal.Facts] [hReferenceIdeal : Cert.ReferenceIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_2_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_3_Kernel [hKernelIdeal : Cert.KernelIdeal.Facts] [hReferenceIdeal : Cert.ReferenceIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_3_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_4_Kernel [hKernelIdeal : Cert.KernelIdeal.Facts] [hReferenceIdeal : Cert.ReferenceIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_4_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_5_Kernel [hKernelIdeal : Cert.KernelIdeal.Facts] [hReferenceIdeal : Cert.ReferenceIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_5_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_6_Kernel [hKernelIdeal : Cert.KernelIdeal.Facts] [hReferenceIdeal : Cert.ReferenceIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_6_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_7_Kernel [hKernelIdeal : Cert.KernelIdeal.Facts] [hReferenceIdeal : Cert.ReferenceIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_7_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_by_1_Kernel : Cert.Pre_rolled_by_1_Kernel.Facts) (hPre_rolled_by_2_Kernel : Cert.Pre_rolled_by_2_Kernel.Facts) (hPre_rolled_by_3_Kernel : Cert.Pre_rolled_by_3_Kernel.Facts) (hPre_rolled_by_4_Kernel : Cert.Pre_rolled_by_4_Kernel.Facts) (hPre_rolled_by_5_Kernel : Cert.Pre_rolled_by_5_Kernel.Facts) (hPre_rolled_by_6_Kernel : Cert.Pre_rolled_by_6_Kernel.Facts) (hPre_rolled_by_7_Kernel : Cert.Pre_rolled_by_7_Kernel.Facts) (hPre_rolled_by_1_ReferenceIdeal : Cert.Pre_rolled_by_1_ReferenceIdeal.Facts) (hPre_rolled_by_2_ReferenceIdeal : Cert.Pre_rolled_by_2_ReferenceIdeal.Facts) (hPre_rolled_by_3_ReferenceIdeal : Cert.Pre_rolled_by_3_ReferenceIdeal.Facts) (hPre_rolled_by_4_ReferenceIdeal : Cert.Pre_rolled_by_4_ReferenceIdeal.Facts) (hPre_rolled_by_5_ReferenceIdeal : Cert.Pre_rolled_by_5_ReferenceIdeal.Facts) (hPre_rolled_by_6_ReferenceIdeal : Cert.Pre_rolled_by_6_ReferenceIdeal.Facts) (hPre_rolled_by_7_ReferenceIdeal : Cert.Pre_rolled_by_7_ReferenceIdeal.Facts),
    quiescent_Kernel (hKernel := hKernel) (hPre_rolled_by_1_Kernel := hPre_rolled_by_1_Kernel)
    ∧ quiescent_Kernel_pre_rolled_by_2_Kernel (hKernel := hKernel) (hPre_rolled_by_2_Kernel := hPre_rolled_by_2_Kernel)
    ∧ quiescent_Kernel_pre_rolled_by_3_Kernel (hKernel := hKernel) (hPre_rolled_by_3_Kernel := hPre_rolled_by_3_Kernel)
    ∧ quiescent_Kernel_pre_rolled_by_4_Kernel (hKernel := hKernel) (hPre_rolled_by_4_Kernel := hPre_rolled_by_4_Kernel)
    ∧ quiescent_Kernel_pre_rolled_by_5_Kernel (hKernel := hKernel) (hPre_rolled_by_5_Kernel := hPre_rolled_by_5_Kernel)
    ∧ quiescent_Kernel_pre_rolled_by_6_Kernel (hKernel := hKernel) (hPre_rolled_by_6_Kernel := hPre_rolled_by_6_Kernel)
    ∧ quiescent_Kernel_pre_rolled_by_7_Kernel (hKernel := hKernel) (hPre_rolled_by_7_Kernel := hPre_rolled_by_7_Kernel)
    ∧ quiescent_KernelIdeal (hKernelIdeal := hKernelIdeal) (hPre_rolled_by_1_Kernel := hPre_rolled_by_1_Kernel)
    ∧ quiescent_KernelIdeal_pre_rolled_by_2_Kernel (hKernelIdeal := hKernelIdeal) (hPre_rolled_by_2_Kernel := hPre_rolled_by_2_Kernel)
    ∧ quiescent_KernelIdeal_pre_rolled_by_3_Kernel (hKernelIdeal := hKernelIdeal) (hPre_rolled_by_3_Kernel := hPre_rolled_by_3_Kernel)
    ∧ quiescent_KernelIdeal_pre_rolled_by_4_Kernel (hKernelIdeal := hKernelIdeal) (hPre_rolled_by_4_Kernel := hPre_rolled_by_4_Kernel)
    ∧ quiescent_KernelIdeal_pre_rolled_by_5_Kernel (hKernelIdeal := hKernelIdeal) (hPre_rolled_by_5_Kernel := hPre_rolled_by_5_Kernel)
    ∧ quiescent_KernelIdeal_pre_rolled_by_6_Kernel (hKernelIdeal := hKernelIdeal) (hPre_rolled_by_6_Kernel := hPre_rolled_by_6_Kernel)
    ∧ quiescent_KernelIdeal_pre_rolled_by_7_Kernel (hKernelIdeal := hKernelIdeal) (hPre_rolled_by_7_Kernel := hPre_rolled_by_7_Kernel)
    ∧ quiescent_ReferenceIdeal (hReferenceIdeal := hReferenceIdeal)
    ∧ quiescent_ReferenceIdeal_pre_rolled_by_1_ReferenceIdeal (hReferenceIdeal := hReferenceIdeal) (hPre_rolled_by_1_ReferenceIdeal := hPre_rolled_by_1_ReferenceIdeal)
    ∧ quiescent_ReferenceIdeal_pre_rolled_by_2_ReferenceIdeal (hReferenceIdeal := hReferenceIdeal) (hPre_rolled_by_2_ReferenceIdeal := hPre_rolled_by_2_ReferenceIdeal)
    ∧ quiescent_ReferenceIdeal_pre_rolled_by_3_ReferenceIdeal (hReferenceIdeal := hReferenceIdeal) (hPre_rolled_by_3_ReferenceIdeal := hPre_rolled_by_3_ReferenceIdeal)
    ∧ quiescent_ReferenceIdeal_pre_rolled_by_4_ReferenceIdeal (hReferenceIdeal := hReferenceIdeal) (hPre_rolled_by_4_ReferenceIdeal := hPre_rolled_by_4_ReferenceIdeal)
    ∧ quiescent_ReferenceIdeal_pre_rolled_by_5_ReferenceIdeal (hReferenceIdeal := hReferenceIdeal) (hPre_rolled_by_5_ReferenceIdeal := hPre_rolled_by_5_ReferenceIdeal)
    ∧ quiescent_ReferenceIdeal_pre_rolled_by_6_ReferenceIdeal (hReferenceIdeal := hReferenceIdeal) (hPre_rolled_by_6_ReferenceIdeal := hPre_rolled_by_6_ReferenceIdeal)
    ∧ quiescent_ReferenceIdeal_pre_rolled_by_7_ReferenceIdeal (hReferenceIdeal := hReferenceIdeal) (hPre_rolled_by_7_ReferenceIdeal := hPre_rolled_by_7_ReferenceIdeal)
    ∧ preserves_Kernel_KernelIdeal
    ∧ algebraic_KernelIdeal_ReferenceIdeal (hKernelIdeal := hKernelIdeal) (hReferenceIdeal := hReferenceIdeal) (hPre_rolled_by_1_Kernel := hPre_rolled_by_1_Kernel)
    ∧ algebraic_KernelIdeal_ReferenceIdeal_pre_rolled_by_2_Kernel (hKernelIdeal := hKernelIdeal) (hReferenceIdeal := hReferenceIdeal) (hPre_rolled_by_2_Kernel := hPre_rolled_by_2_Kernel)
    ∧ algebraic_KernelIdeal_ReferenceIdeal_pre_rolled_by_3_Kernel (hKernelIdeal := hKernelIdeal) (hReferenceIdeal := hReferenceIdeal) (hPre_rolled_by_3_Kernel := hPre_rolled_by_3_Kernel)
    ∧ algebraic_KernelIdeal_ReferenceIdeal_pre_rolled_by_4_Kernel (hKernelIdeal := hKernelIdeal) (hReferenceIdeal := hReferenceIdeal) (hPre_rolled_by_4_Kernel := hPre_rolled_by_4_Kernel)
    ∧ algebraic_KernelIdeal_ReferenceIdeal_pre_rolled_by_5_Kernel (hKernelIdeal := hKernelIdeal) (hReferenceIdeal := hReferenceIdeal) (hPre_rolled_by_5_Kernel := hPre_rolled_by_5_Kernel)
    ∧ algebraic_KernelIdeal_ReferenceIdeal_pre_rolled_by_6_Kernel (hKernelIdeal := hKernelIdeal) (hReferenceIdeal := hReferenceIdeal) (hPre_rolled_by_6_Kernel := hPre_rolled_by_6_Kernel)
    ∧ algebraic_KernelIdeal_ReferenceIdeal_pre_rolled_by_7_Kernel (hKernelIdeal := hKernelIdeal) (hReferenceIdeal := hReferenceIdeal) (hPre_rolled_by_7_Kernel := hPre_rolled_by_7_Kernel)
-- ==== Pre_rolled_by_1_Kernel.lean ====
abbrev S1x256x256 : Shape := ⟨3, ![1, 256, 256]⟩
abbrev S8 : Shape := ⟨1, ![8]⟩
abbrev S1 : Shape := ⟨1, ![1]⟩
abbrev S7 : Shape := ⟨1, ![7]⟩

class Facts : Prop where
  slices_S8_S1_7 : S8.Slices ![7] S1
  slices_S8_S7_0 : S8.Slices ![0] S7
  concatenates_S1_S7_S8_d0 : Shape.Concatenates [S1, S7] S8 0

variable [Facts]

def fn_roll_static {F : FTy → Type} [FloatOps F] (arg0 : IVec S8 32) : IVec S8 32 :=
  let v0 : IVec S1 32 := (extractStridedSlice S1 ![7] · slices_S8_S1_7) arg0
  let v1 : IVec S7 32 := (extractStridedSlice S7 ![0] · slices_S8_S7_0) arg0
  let v2 : IVec S8 32 := (fun a b => concatenate S8 0 [⟨S1, a⟩, ⟨S7, b⟩] concatenates_S1_S7_S8_d0) v0 v1
  v2

def fn {F : FTy → Type} [FloatOps F] (main_arg0 : FVec F S1x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_1_ReferenceIdeal.lean ====
abbrev S8x256x256 : Shape := ⟨3, ![8, 256, 256]⟩
abbrev S8 : Shape := ⟨1, ![8]⟩
abbrev S1 : Shape := ⟨1, ![1]⟩
abbrev S7 : Shape := ⟨1, ![7]⟩

class Facts : Prop where
  slices_S8_S1_7 : S8.Slices ![7] S1
  slices_S8_S7_0 : S8.Slices ![0] S7
  concatenates_S1_S7_S8_d0 : Shape.Concatenates [S1, S7] S8 0

variable [Facts]

def fn_roll_static {F : FTy → Type} [FloatOps F] (arg0 : IVec S8 32) : IVec S8 32 :=
  let v0 : IVec S1 32 := (extractStridedSlice S1 ![7] · slices_S8_S1_7) arg0
  let v1 : IVec S7 32 := (extractStridedSlice S7 ![0] · slices_S8_S7_0) arg0
  let v2 : IVec S8 32 := (fun a b => concatenate S8 0 [⟨S1, a⟩, ⟨S7, b⟩] concatenates_S1_S7_S8_d0) v0 v1
  v2

def fn {F : FTy → Type} [FloatOps F] (main_arg0 : FVec F S8x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_2_Kernel.lean ====
abbrev S1x256x256 : Shape := ⟨3, ![1, 256, 256]⟩
abbrev S8 : Shape := ⟨1, ![8]⟩
abbrev S2 : Shape := ⟨1, ![2]⟩
abbrev S6 : Shape := ⟨1, ![6]⟩

class Facts : Prop where
  slices_S8_S2_6 : S8.Slices ![6] S2
  slices_S8_S6_0 : S8.Slices ![0] S6
  concatenates_S2_S6_S8_d0 : Shape.Concatenates [S2, S6] S8 0

variable [Facts]

def fn_roll_static {F : FTy → Type} [FloatOps F] (arg0 : IVec S8 32) : IVec S8 32 :=
  let v0 : IVec S2 32 := (extractStridedSlice S2 ![6] · slices_S8_S2_6) arg0
  let v1 : IVec S6 32 := (extractStridedSlice S6 ![0] · slices_S8_S6_0) arg0
  let v2 : IVec S8 32 := (fun a b => concatenate S8 0 [⟨S2, a⟩, ⟨S6, b⟩] concatenates_S2_S6_S8_d0) v0 v1
  v2

def fn {F : FTy → Type} [FloatOps F] (main_arg0 : FVec F S1x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_2_ReferenceIdeal.lean ====
abbrev S8x256x256 : Shape := ⟨3, ![8, 256, 256]⟩
abbrev S8 : Shape := ⟨1, ![8]⟩
abbrev S2 : Shape := ⟨1, ![2]⟩
abbrev S6 : Shape := ⟨1, ![6]⟩

class Facts : Prop where
  slices_S8_S2_6 : S8.Slices ![6] S2
  slices_S8_S6_0 : S8.Slices ![0] S6
  concatenates_S2_S6_S8_d0 : Shape.Concatenates [S2, S6] S8 0

variable [Facts]

def fn_roll_static {F : FTy → Type} [FloatOps F] (arg0 : IVec S8 32) : IVec S8 32 :=
  let v0 : IVec S2 32 := (extractStridedSlice S2 ![6] · slices_S8_S2_6) arg0
  let v1 : IVec S6 32 := (extractStridedSlice S6 ![0] · slices_S8_S6_0) arg0
  let v2 : IVec S8 32 := (fun a b => concatenate S8 0 [⟨S2, a⟩, ⟨S6, b⟩] concatenates_S2_S6_S8_d0) v0 v1
  v2

def fn {F : FTy → Type} [FloatOps F] (main_arg0 : FVec F S8x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_3_Kernel.lean ====
abbrev S1x256x256 : Shape := ⟨3, ![1, 256, 256]⟩
abbrev S8 : Shape := ⟨1, ![8]⟩
abbrev S3 : Shape := ⟨1, ![3]⟩
abbrev S5 : Shape := ⟨1, ![5]⟩

class Facts : Prop where
  slices_S8_S3_5 : S8.Slices ![5] S3
  slices_S8_S5_0 : S8.Slices ![0] S5
  concatenates_S3_S5_S8_d0 : Shape.Concatenates [S3, S5] S8 0

variable [Facts]

def fn_roll_static {F : FTy → Type} [FloatOps F] (arg0 : IVec S8 32) : IVec S8 32 :=
  let v0 : IVec S3 32 := (extractStridedSlice S3 ![5] · slices_S8_S3_5) arg0
  let v1 : IVec S5 32 := (extractStridedSlice S5 ![0] · slices_S8_S5_0) arg0
  let v2 : IVec S8 32 := (fun a b => concatenate S8 0 [⟨S3, a⟩, ⟨S5, b⟩] concatenates_S3_S5_S8_d0) v0 v1
  v2

def fn {F : FTy → Type} [FloatOps F] (main_arg0 : FVec F S1x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_3_ReferenceIdeal.lean ====
abbrev S8x256x256 : Shape := ⟨3, ![8, 256, 256]⟩
abbrev S8 : Shape := ⟨1, ![8]⟩
abbrev S3 : Shape := ⟨1, ![3]⟩
abbrev S5 : Shape := ⟨1, ![5]⟩

class Facts : Prop where
  slices_S8_S3_5 : S8.Slices ![5] S3
  slices_S8_S5_0 : S8.Slices ![0] S5
  concatenates_S3_S5_S8_d0 : Shape.Concatenates [S3, S5] S8 0

variable [Facts]

def fn_roll_static {F : FTy → Type} [FloatOps F] (arg0 : IVec S8 32) : IVec S8 32 :=
  let v0 : IVec S3 32 := (extractStridedSlice S3 ![5] · slices_S8_S3_5) arg0
  let v1 : IVec S5 32 := (extractStridedSlice S5 ![0] · slices_S8_S5_0) arg0
  let v2 : IVec S8 32 := (fun a b => concatenate S8 0 [⟨S3, a⟩, ⟨S5, b⟩] concatenates_S3_S5_S8_d0) v0 v1
  v2

def fn {F : FTy → Type} [FloatOps F] (main_arg0 : FVec F S8x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_4_Kernel.lean ====
abbrev S1x256x256 : Shape := ⟨3, ![1, 256, 256]⟩
abbrev S8 : Shape := ⟨1, ![8]⟩
abbrev S4 : Shape := ⟨1, ![4]⟩

class Facts : Prop where
  slices_S8_S4_4 : S8.Slices ![4] S4
  slices_S8_S4_0 : S8.Slices ![0] S4
  concatenates_S4_S4_S8_d0 : Shape.Concatenates [S4, S4] S8 0

variable [Facts]

def fn_roll_static {F : FTy → Type} [FloatOps F] (arg0 : IVec S8 32) : IVec S8 32 :=
  let v0 : IVec S4 32 := (extractStridedSlice S4 ![4] · slices_S8_S4_4) arg0
  let v1 : IVec S4 32 := (extractStridedSlice S4 ![0] · slices_S8_S4_0) arg0
  let v2 : IVec S8 32 := (fun a b => concatenate S8 0 [⟨S4, a⟩, ⟨S4, b⟩] concatenates_S4_S4_S8_d0) v0 v1
  v2

def fn {F : FTy → Type} [FloatOps F] (main_arg0 : FVec F S1x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_4_ReferenceIdeal.lean ====
abbrev S8x256x256 : Shape := ⟨3, ![8, 256, 256]⟩
abbrev S8 : Shape := ⟨1, ![8]⟩
abbrev S4 : Shape := ⟨1, ![4]⟩

class Facts : Prop where
  slices_S8_S4_4 : S8.Slices ![4] S4
  slices_S8_S4_0 : S8.Slices ![0] S4
  concatenates_S4_S4_S8_d0 : Shape.Concatenates [S4, S4] S8 0

variable [Facts]

def fn_roll_static {F : FTy → Type} [FloatOps F] (arg0 : IVec S8 32) : IVec S8 32 :=
  let v0 : IVec S4 32 := (extractStridedSlice S4 ![4] · slices_S8_S4_4) arg0
  let v1 : IVec S4 32 := (extractStridedSlice S4 ![0] · slices_S8_S4_0) arg0
  let v2 : IVec S8 32 := (fun a b => concatenate S8 0 [⟨S4, a⟩, ⟨S4, b⟩] concatenates_S4_S4_S8_d0) v0 v1
  v2

def fn {F : FTy → Type} [FloatOps F] (main_arg0 : FVec F S8x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_5_Kernel.lean ====
abbrev S1x256x256 : Shape := ⟨3, ![1, 256, 256]⟩
abbrev S8 : Shape := ⟨1, ![8]⟩
abbrev S5 : Shape := ⟨1, ![5]⟩
abbrev S3 : Shape := ⟨1, ![3]⟩

class Facts : Prop where
  slices_S8_S5_3 : S8.Slices ![3] S5
  slices_S8_S3_0 : S8.Slices ![0] S3
  concatenates_S5_S3_S8_d0 : Shape.Concatenates [S5, S3] S8 0

variable [Facts]

def fn_roll_static {F : FTy → Type} [FloatOps F] (arg0 : IVec S8 32) : IVec S8 32 :=
  let v0 : IVec S5 32 := (extractStridedSlice S5 ![3] · slices_S8_S5_3) arg0
  let v1 : IVec S3 32 := (extractStridedSlice S3 ![0] · slices_S8_S3_0) arg0
  let v2 : IVec S8 32 := (fun a b => concatenate S8 0 [⟨S5, a⟩, ⟨S3, b⟩] concatenates_S5_S3_S8_d0) v0 v1
  v2

def fn {F : FTy → Type} [FloatOps F] (main_arg0 : FVec F S1x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_5_ReferenceIdeal.lean ====
abbrev S8x256x256 : Shape := ⟨3, ![8, 256, 256]⟩
abbrev S8 : Shape := ⟨1, ![8]⟩
abbrev S5 : Shape := ⟨1, ![5]⟩
abbrev S3 : Shape := ⟨1, ![3]⟩

class Facts : Prop where
  slices_S8_S5_3 : S8.Slices ![3] S5
  slices_S8_S3_0 : S8.Slices ![0] S3
  concatenates_S5_S3_S8_d0 : Shape.Concatenates [S5, S3] S8 0

variable [Facts]

def fn_roll_static {F : FTy → Type} [FloatOps F] (arg0 : IVec S8 32) : IVec S8 32 :=
  let v0 : IVec S5 32 := (extractStridedSlice S5 ![3] · slices_S8_S5_3) arg0
  let v1 : IVec S3 32 := (extractStridedSlice S3 ![0] · slices_S8_S3_0) arg0
  let v2 : IVec S8 32 := (fun a b => concatenate S8 0 [⟨S5, a⟩, ⟨S3, b⟩] concatenates_S5_S3_S8_d0) v0 v1
  v2

def fn {F : FTy → Type} [FloatOps F] (main_arg0 : FVec F S8x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_6_Kernel.lean ====
abbrev S1x256x256 : Shape := ⟨3, ![1, 256, 256]⟩
abbrev S8 : Shape := ⟨1, ![8]⟩
abbrev S6 : Shape := ⟨1, ![6]⟩
abbrev S2 : Shape := ⟨1, ![2]⟩

class Facts : Prop where
  slices_S8_S6_2 : S8.Slices ![2] S6
  slices_S8_S2_0 : S8.Slices ![0] S2
  concatenates_S6_S2_S8_d0 : Shape.Concatenates [S6, S2] S8 0

variable [Facts]

def fn_roll_static {F : FTy → Type} [FloatOps F] (arg0 : IVec S8 32) : IVec S8 32 :=
  let v0 : IVec S6 32 := (extractStridedSlice S6 ![2] · slices_S8_S6_2) arg0
  let v1 : IVec S2 32 := (extractStridedSlice S2 ![0] · slices_S8_S2_0) arg0
  let v2 : IVec S8 32 := (fun a b => concatenate S8 0 [⟨S6, a⟩, ⟨S2, b⟩] concatenates_S6_S2_S8_d0) v0 v1
  v2

def fn {F : FTy → Type} [FloatOps F] (main_arg0 : FVec F S1x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_6_ReferenceIdeal.lean ====
abbrev S8x256x256 : Shape := ⟨3, ![8, 256, 256]⟩
abbrev S8 : Shape := ⟨1, ![8]⟩
abbrev S6 : Shape := ⟨1, ![6]⟩
abbrev S2 : Shape := ⟨1, ![2]⟩

class Facts : Prop where
  slices_S8_S6_2 : S8.Slices ![2] S6
  slices_S8_S2_0 : S8.Slices ![0] S2
  concatenates_S6_S2_S8_d0 : Shape.Concatenates [S6, S2] S8 0

variable [Facts]

def fn_roll_static {F : FTy → Type} [FloatOps F] (arg0 : IVec S8 32) : IVec S8 32 :=
  let v0 : IVec S6 32 := (extractStridedSlice S6 ![2] · slices_S8_S6_2) arg0
  let v1 : IVec S2 32 := (extractStridedSlice S2 ![0] · slices_S8_S2_0) arg0
  let v2 : IVec S8 32 := (fun a b => concatenate S8 0 [⟨S6, a⟩, ⟨S2, b⟩] concatenates_S6_S2_S8_d0) v0 v1
  v2

def fn {F : FTy → Type} [FloatOps F] (main_arg0 : FVec F S8x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_7_Kernel.lean ====
abbrev S1x256x256 : Shape := ⟨3, ![1, 256, 256]⟩
abbrev S8 : Shape := ⟨1, ![8]⟩
abbrev S7 : Shape := ⟨1, ![7]⟩
abbrev S1 : Shape := ⟨1, ![1]⟩

class Facts : Prop where
  slices_S8_S7_1 : S8.Slices ![1] S7
  slices_S8_S1_0 : S8.Slices ![0] S1
  concatenates_S7_S1_S8_d0 : Shape.Concatenates [S7, S1] S8 0

variable [Facts]

def fn_roll_static {F : FTy → Type} [FloatOps F] (arg0 : IVec S8 32) : IVec S8 32 :=
  let v0 : IVec S7 32 := (extractStridedSlice S7 ![1] · slices_S8_S7_1) arg0
  let v1 : IVec S1 32 := (extractStridedSlice S1 ![0] · slices_S8_S1_0) arg0
  let v2 : IVec S8 32 := (fun a b => concatenate S8 0 [⟨S7, a⟩, ⟨S1, b⟩] concatenates_S7_S1_S8_d0) v0 v1
  v2

def fn {F : FTy → Type} [FloatOps F] (main_arg0 : FVec F S1x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Pre_rolled_by_7_ReferenceIdeal.lean ====
abbrev S8x256x256 : Shape := ⟨3, ![8, 256, 256]⟩
abbrev S8 : Shape := ⟨1, ![8]⟩
abbrev S7 : Shape := ⟨1, ![7]⟩
abbrev S1 : Shape := ⟨1, ![1]⟩

class Facts : Prop where
  slices_S8_S7_1 : S8.Slices ![1] S7
  slices_S8_S1_0 : S8.Slices ![0] S1
  concatenates_S7_S1_S8_d0 : Shape.Concatenates [S7, S1] S8 0

variable [Facts]

def fn_roll_static {F : FTy → Type} [FloatOps F] (arg0 : IVec S8 32) : IVec S8 32 :=
  let v0 : IVec S7 32 := (extractStridedSlice S7 ![1] · slices_S8_S7_1) arg0
  let v1 : IVec S1 32 := (extractStridedSlice S1 ![0] · slices_S8_S1_0) arg0
  let v2 : IVec S8 32 := (fun a b => concatenate S8 0 [⟨S7, a⟩, ⟨S1, b⟩] concatenates_S7_S1_S8_d0) v0 v1
  v2

def fn {F : FTy → Type} [FloatOps F] (main_arg0 : FVec F S8x256x256 .bf16) (main_arg1 : IVec S8 32) : IVec S8 1 :=
  let main_v0 : IVec S8 32 := iotaInDim S8 32 0
  let main_v1 : IVec S8 32 := fn_roll_static (F := F) main_v0
  let main_v2 : IVec S8 1 := cmpi .eq main_arg1 main_v1
  main_v2
-- ==== Kernel.lean ====
abbrev S1x256x256 : Shape := ⟨3, ![1, 256, 256]⟩
abbrev S8 : Shape := ⟨1, ![8]⟩
abbrev S8x128 : Shape := ⟨2, ![8, 128]⟩
abbrev S3 : Shape := ⟨1, ![3]⟩
abbrev S1 : Shape := ⟨1, ![1]⟩
abbrev S_ : Shape := ⟨0, ![]⟩
abbrev S1x1x256x256 : Shape := ⟨4, ![1, 1, 256, 256]⟩
abbrev S1x1x1x1 : Shape := ⟨4, ![1, 1, 1, 1]⟩
abbrev S1x128x256 : Shape := ⟨3, ![1, 128, 256]⟩
abbrev S1x1 : Shape := ⟨2, ![1, 1]⟩

abbrev nBuf : Space → Nat
  | .hbm => 3
  | .vmem => 6
  | .smem => 1
  | _ => 0

abbrev bufTy : (tb : Table) → Fin (tcTables nBuf tb) → BufTy
  | .hbm, ⟨0, _⟩ => ⟨S1x256x256, .bf16⟩
  | .hbm, ⟨1, _⟩ => ⟨S8, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .i8⟩
  | .local _ .vmem, ⟨3, _⟩ => ⟨S1x256x256, .i8⟩
  | .local _ .vmem, ⟨4, _⟩ => ⟨S8x128, .f32⟩
  | .local _ .vmem, ⟨5, _⟩ => ⟨S8x128, .f32⟩
  | .local _ .smem, ⟨0, _⟩ => ⟨S8, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  ![v3.toNat]
@[reducible] def k0_t1_loop : Scf.Loop 32 :=
  let c0_i32_0 : BitVec 32 := 0#32
  let c8_i32_1 : BitVec 32 := 8#32
  let v5 : BitVec 32 := Scalar.addi c0_i32_0 c8_i32_1
  let c1_i32_2 : BitVec 32 := 1#32
  ⟨c0_i32_0, v5, c1_i32_2⟩
def k0_off2 (k0_t1 : Fin k0_t1_loop.trips) : Fin 1 → Nat :=
  let c0_i32_0 : BitVec 32 := 0#32
  let c1_i32_2 : BitVec 32 := 1#32
  let arg9 : BitVec 32 := Scf.iv c0_i32_0 c1_i32_2 k0_t1
  let v93 : Index := Scalar.indexCast arg9
  ![v93.toNat]
def k0_dev1 (v6 : BitVec 32) : Nat :=
  v6.toNat

def k0_chk1 (v6 : BitVec 32) : Prop :=
  ((k0_dev1 v6) < nD)
theorem k0_dev1_lt : ∀ (v6 : BitVec 32) (k0_hw1 : k0_chk1 v6), (k0_dev1 v6) < nD := fun v6 k0_hw1 => k0_hw1

def k0_dev2 (v4 : BitVec 32) : Nat :=
  v4.toNat

def k0_dev3 (v4 : BitVec 32) : Nat :=
  v4.toNat
def k0_dev4 (v4 : BitVec 32) : Nat :=
  v4.toNat

def k0_chk2 (v4 : BitVec 32) : Prop :=
  ((k0_dev2 v4) < nD) ∧
  ((k0_dev3 v4) < nD) ∧
  ((k0_dev4 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev4_lt : ∀ (v4 : BitVec 32) (k0_hw2 : k0_chk2 v4), (k0_dev4 v4) < nD := fun v4 k0_hw2 => k0_hw2.2.2

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x256x256 : Shape := ⟨3, ![8, 256, 256]⟩
abbrev S8 : Shape := ⟨1, ![8]⟩
abbrev S_ : Shape := ⟨0, ![]⟩
abbrev S8x1x1 : Shape := ⟨3, ![8, 1, 1]⟩
abbrev S8x1 : Shape := ⟨2, ![8, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8, .i32⟩
  | .hbm, ⟨2, _⟩ => ⟨S8x256x256, .f32⟩
  | .hbm, ⟨3, _⟩ => ⟨S8x256x256, .f32⟩
  | .hbm, ⟨4, _⟩ => ⟨S_, .f32⟩
  | .hbm, ⟨5, _⟩ => ⟨S8, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .f32⟩
  | .hbm, ⟨10, _⟩ => ⟨S_, .f32⟩
  | .hbm, ⟨11, _⟩ => ⟨S8x1x1, .f32⟩
  | .hbm, ⟨12, _⟩ => ⟨S8x1x1, .f32⟩
  | .hbm, ⟨13, _⟩ => ⟨S8x256x256, .f32⟩
  | .hbm, ⟨14, _⟩ => ⟨S8x256x256, .f32⟩
  | .hbm, ⟨15, _⟩ => ⟨S8x256x256, .f32⟩
  | .hbm, ⟨16, _⟩ => ⟨S_, .f32⟩
  | .hbm, ⟨17, _⟩ => ⟨S8x1x1, .f32⟩
  | .hbm, ⟨18, _⟩ => ⟨S8x1x1, .f32⟩
  | .hbm, ⟨19, _⟩ => ⟨S8x256x256, .f32⟩
  | .hbm, ⟨20, _⟩ => ⟨S8x256x256, .f32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S8x1, .i32⟩
  | .hbm, ⟨32, _⟩ => ⟨S8x256x256, .f32⟩
  | .hbm, ⟨33, _⟩ => ⟨S8x256x256, .bf16⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call1_v0 : Ref sig .tc := ⟨.hbm, 21, rfl⟩
abbrev main_call1_v1_0 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Protocol.lean ====
/-
# The permutation shuffle: its protocol

Every device `c` holds the same table, a permutation `σ` of the eight devices. It sends its block — quantised, in
two halves, with one scale — to `σ c`, and receives the block of `σ⁻¹ c`. Before a device sends anything it waits
for one unit on its barrier semaphore; that unit comes from `σ c`, which by it lends out the buffers the three
transfers will land in. This module states that as a schedule of one round:

* cell 0, the barrier of `c`: one unit, paid by `σ c`, handing over `σ c`'s two landing halves and its landing scale;
* cells 1, 2, 3, the send semaphores of `c`: credited by `c`'s own transfers, giving back the two quantised halves
  and the scale that were read;
* cells 4, 5, 6, the receive semaphores of `c`: credited by the transfers of `σ⁻¹ c`, handing over the landing
  buffers with `σ⁻¹ c`'s quantised halves and scale in them.

The waits cannot go round in a circle: a barrier lies below the receive semaphores, and everything a device still
owes when it waits on its barrier is a receive credit.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's copy beside the shuffle's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (σ : Equiv.Perm (Dev nD))
variable (m : (ℓ : Loc nD τ sig) → Buf (Elt F) ℓ) (ρ : Dev nD → PrngReg)

/-- The memory at launch: the given contents, every counter zero. -/
def s₀ : MemSt nD τ sig (Elt F) := ⟨m, fun _ => 0, ρ⟩

/-! ## The buffers and the cells -/

abbrev tabM : Memref sig .tc .smem S8 .i32 := Memref.whole cc0_stg0_0
abbrev xM : Memref sig .tc .vmem S1x256x256 .bf16 := Memref.whole cc0_stg1_0
abbrev oM : Memref sig .tc .vmem S1x256x256 .bf16 := Memref.whole cc0_stg2_0
abbrev qM : Memref sig .tc .vmem S1x256x256 .i8 := Memref.whole cc0_scratch0
abbrev rM : Memref sig .tc .vmem S1x256x256 .i8 := Memref.whole cc0_scratch1
abbrev sM : Memref sig .tc .vmem S8x128 .f32 := Memref.whole cc0_scratch2
abbrev tM : Memref sig .tc .vmem S8x128 .f32 := Memref.whole cc0_scratch3

/-- The upper and the lower half of the rows of a block. -/
abbrev h0R : Rect S1x256x256 := Rect.unit (s := S1x256x256) ![0, 0, 0] S1x128x256.size inb_S1x256x256_S1x128x256_0_0_0
abbrev h1R : Rect S1x256x256 := Rect.unit (s := S1x256x256) ![0, 128, 0] S1x128x256.size inb_S1x256x256_S1x128x256_0_128_0
abbrev q0 : Memref sig .tc .vmem S1x128x256 .i8 := qM.slice h0R (fun _ => rfl)
abbrev q1 : Memref sig .tc .vmem S1x128x256 .i8 := qM.slice h1R (fun _ => rfl)
abbrev r0 : Memref sig .tc .vmem S1x128x256 .i8 := rM.slice h0R (fun _ => rfl)
abbrev r1 : Memref sig .tc .vmem S1x128x256 .i8 := rM.slice h1R (fun _ => rfl)

abbrev barS : Sem sig := (SemArray.scalar (sig.barrier 0 rfl) : Sems sig S_).sem
abbrev dsem (k : Nat) (h : 3 + k < 9) : DmaSem sig := ⟨3 + k, h⟩

/-- The seven semaphores of the protocol: the barrier, three send, three receive. -/
abbrev csem : Fin 7 → SemLoc sig := fun
  | 0 => .reg barS
  | 1 => .dma (dsem 0 (by decide)) | 2 => .dma (dsem 1 (by decide)) | 3 => .dma (dsem 2 (by decide))
  | 4 => .dma (dsem 3 (by decide)) | 5 => .dma (dsem 4 (by decide)) | 6 => .dma (dsem 5 (by decide))
/-- The six of them that belong to the launch. -/
abbrev osem : Fin 6 → SemLoc sig := fun
  | 0 => .dma (dsem 0 (by decide)) | 1 => .dma (dsem 1 (by decide)) | 2 => .dma (dsem 2 (by decide))
  | 3 => .dma (dsem 3 (by decide)) | 4 => .dma (dsem 4 (by decide)) | 5 => .dma (dsem 5 (by decide))
abbrev kcell (ck : Dev nD × Fin 7) : GSem nD τ sig := ((ck.1 : Thread nD τ), csem ck.2)
abbrev cell (c : Dev nD) (k : Fin 7) : GSem nD τ sig := kcell (c, k)

/-- The place of a semaphore among the seven; 7 for any other. -/
def idxOf : SemLoc sig → ℕ
  | .reg _ => 0
  | .dma q => if q.val < 3 then 7 else q.val - 2

theorem idx_csem (k : Fin 7) : idxOf (csem k) = k.val := by fin_cases k <;> rfl
theorem csem_injective : Function.Injective csem := fun a b h =>
  Fin.ext (by rw [← idx_csem a, ← idx_csem b, h])

/-- The credit of a half block, and of the scale. -/
abbrev Nq : ℕ := (r0 : Memref sig .tc .vmem S1x128x256 .i8).view.dmaCredit
abbrev Ns : ℕ := (tM : Memref sig .tc .vmem S8x128 .f32).view.dmaCredit
theorem Nq_pos : 0 < Nq := View.dmaCredit_pos _ (by decide)
theorem Ns_pos : 0 < Ns := View.dmaCredit_pos _ (by decide)

/-! ## The contents -/

/-- The table and the block as the launch stages them on device `c`. -/
def tstg (c : Dev nD) : (cc0_stg0_0 : Ref sig .tc).ty.Contents (Elt F) :=
  (win0_0.blk (0 : Fin 1)).view.read (Elt F) ((s₀ m ρ).mem ((c : Thread nD τ).loc main_arg1))
def xstg (c : Dev nD) : (cc0_stg1_0 : Ref sig .tc).ty.Contents (Elt F) :=
  (win0_1.blk (0 : Fin 1)).view.read (Elt F) ((s₀ m ρ).mem ((c : Thread nD τ).loc main_arg0))

/-- What device `c` sends: the two quantised halves and the scale. -/
abbrev qLo (x : Vec F S1x256x256 .bf16) : IVec S1x128x256 8 := k0_pay5 x
abbrev qHi (x : Vec F S1x256x256 .bf16) : IVec S1x128x256 8 := k0_pay6 (k0_pay1 x) (k0_pay3 x)
abbrev scl (x : Vec F S1x256x256 .bf16) : FVec F S8x128 .f32 := k0_pay4 x

/-- The first entry of the scale's buffer, as the kernel loads it. -/
abbrev r11 : Rect S8x128 := Rect.unit (s := S8x128) ![0, 0] S1x1.size inb_S8x128_S1x1_0_0
abbrev scl1 (x : Vec F S1x256x256 .bf16) : Vec F S1x1 .f32 := (tM.access r11).read (Elt F) (scl x)

/-- The two halves of the result, made from the block `x` of the sender. -/
abbrev oLo (x : Vec F S1x256x256 .bf16) : FVec F S1x128x256 .bf16 := k0_pay7 (qLo x) (scl1 x)
abbrev oHi (x : Vec F S1x256x256 .bf16) : FVec F S1x128x256 .bf16 := k0_pay8 (qHi x) (scl1 x)

/-- The result made from the sender's block: both halves written (over anything: `halves_cover`). -/
def outOf (x : Vec F S1x256x256 .bf16) : (cc0_stg2_0 : Ref sig .tc).ty.Contents (Elt F) :=
  (oM.access h1R : View sig .tc _ _ _).write (Elt F) ((oM.access h0R : View sig .tc _ _ _).write (Elt F) x (oLo x) Finset.univ) (oHi x) Finset.univ
def outAt (c : Dev nD) : (cc0_stg2_0 : Ref sig .tc).ty.Contents (Elt F) := outOf (xstg m ρ (σ.symm c))

/-- The elements a memref names on device `c`, owned at the contents `f` of its buffer. -/
def pts {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

omit [FloatOps F] in
instance pts_storable {sp : Space} {s : Shape} {e : EltTy} (M : Memref sig .tc sp s e) (c : Dev nD) (f) :
    BI.Storable (upEmb : UEmb _ 𝕄) (pts (F := F) M c f) := by unfold pts; infer_instance

omit [FloatOps F] in
theorem pts_whole (b : Ref sig .tc) (c : Dev nD) (f : Buf (Elt F) ((c : Thread nD τ).loc b)) :
    pts (Memref.whole b) c f = (((c : Thread nD τ).loc b) ↦{fullShare} f : sProp 𝕄) := by
  unfold pts; rw [show (Memref.whole b : Memref sig .tc _ _ _).view.set = Finset.univ from View.set_whole _]

/-! ### A block is its two halves -/

theorem mem_h0 (i : S1x256x256.Idx) : i ∈ h0R.set ↔ (i 1).val < 128 := by
  rw [Rect.mem_set_unit]
  constructor
  · intro h; have := (h 1).2; simpa using this
  · intro h a; fin_cases a
    · exact ⟨Nat.zero_le _, (i 0).isLt⟩
    · exact ⟨Nat.zero_le _, by simpa using h⟩
    · exact ⟨Nat.zero_le _, by simpa using (i 2).isLt⟩
theorem mem_h1 (i : S1x256x256.Idx) : i ∈ h1R.set ↔ 128 ≤ (i 1).val := by
  rw [Rect.mem_set_unit]
  constructor
  · intro h; exact (h 1).1
  · intro h a; fin_cases a
    · exact ⟨Nat.zero_le _, (i 0).isLt⟩
    · exact ⟨h, (i 1).isLt⟩
    · exact ⟨Nat.zero_le _, by simpa using (i 2).isLt⟩
theorem h_disj : Disjoint h0R.set h1R.set :=
  Finset.disjoint_left.mpr fun i h0 h1 => by rw [mem_h0] at h0; rw [mem_h1] at h1; omega
theorem h_union : h0R.set ∪ h1R.set = (Finset.univ : Finset S1x256x256.Idx) := by
  ext i; rw [Finset.mem_union, mem_h0, mem_h1]; exact ⟨fun _ => Finset.mem_univ _, fun _ => by omega⟩

omit [FloatOps F] in
/-- What is under the two written halves does not matter. -/
theorem halves_cover (f g : (cc0_stg2_0 : Ref sig .tc).ty.Contents (Elt F)) (a b : Vec F S1x128x256 .bf16) :
    (oM.access h1R : View sig .tc _ _ _).write (Elt F) ((oM.access h0R : View sig .tc _ _ _).write (Elt F) f a Finset.univ) b Finset.univ
      = (oM.access h1R : View sig .tc _ _ _).write (Elt F) ((oM.access h0R : View sig .tc _ _ _).write (Elt F) g a Finset.univ) b Finset.univ := by
  have s0 : (oM.access h0R : View sig .tc _ _ _).setOn Finset.univ = h0R.set := View.set_slice_whole _ _
  have s1 : (oM.access h1R : View sig .tc _ _ _).setOn Finset.univ = h1R.set := View.set_slice_whole _ _
  funext i
  by_cases h1 : i ∈ h1R.set
  · rw [← s1] at h1
    obtain ⟨y, -, rfl⟩ := Finset.mem_map.mp h1
    rw [View.write_emb_of_mem _ _ (Finset.mem_univ y), View.write_emb_of_mem _ _ (Finset.mem_univ y)]
  · have h0 : i ∈ h0R.set := by
      have := Finset.mem_univ i; rw [← h_union, Finset.mem_union] at this; exact this.resolve_right h1
    rw [View.write_of_not_mem (v := (oM.access h1R : View sig .tc _ _ _)) _ _ _ (by rw [s1]; exact h1),
      View.write_of_not_mem (v := (oM.access h1R : View sig .tc _ _ _)) _ _ _ (by rw [s1]; exact h1)]
    rw [← s0] at h0
    obtain ⟨y, -, rfl⟩ := Finset.mem_map.mp h0
    rw [View.write_emb_of_mem _ _ (Finset.mem_univ y), View.write_emb_of_mem _ _ (Finset.mem_univ y)]

omit [FloatOps F] in
theorem q_split (c : Dev nD) (f : Buf (Elt F) ((c : Thread nD τ).loc cc0_scratch0)) :
    (((c : Thread nD τ).loc cc0_scratch0) ↦{fullShare} f : sProp 𝕄) ⊢ iprop(pts q0 c f ∗ pts q1 c f) := by
  unfold pts
  rw [show q0.view.set = h0R.set from View.set_slice_whole _ _, show q1.view.set = h1R.set from View.set_slice_whole _ _]
  rw [← h_union]; exact (pointsTo_union h_disj).1
omit [FloatOps F] in
theorem r_split (c : Dev nD) (f : Buf (Elt F) ((c : Thread nD τ).loc cc0_scratch1)) :
    (((c : Thread nD τ).loc cc0_scratch1) ↦{fullShare} f : sProp 𝕄) ⊢ iprop(pts r0 c f ∗ pts r1 c f) := by
  unfold pts
  rw [show r0.view.set = h0R.set from View.set_slice_whole _ _, show r1.view.set = h1R.set from View.set_slice_whole _ _]
  rw [← h_union]; exact (pointsTo_union h_disj).1
omit [FloatOps F] in
theorem q_join (c : Dev nD) (f g : Buf (Elt F) ((c : Thread nD τ).loc cc0_scratch0)) :
    iprop(pts q0 c f ∗ pts q1 c g) ⊢ iprop(∃ h, ((c : Thread nD τ).loc cc0_scratch0) ↦{fullShare} h : sProp 𝕄) := by
  unfold pts
  rw [show q0.view.set = h0R.set from View.set_slice_whole _ _, show q1.view.set = h1R.set from View.set_slice_whole _ _]
  refine (pointsTo_join h_disj).trans ?_
  rw [h_union]; iintro H; iexists _; iexact H
omit [FloatOps F] in
theorem r_join (c : Dev nD) (f g : Buf (Elt F) ((c : Thread nD τ).loc cc0_scratch1)) :
    iprop(pts r0 c f ∗ pts r1 c g) ⊢ iprop(∃ h, ((c : Thread nD τ).loc cc0_scratch1) ↦{fullShare} h : sProp 𝕄) := by
  unfold pts
  rw [show r0.view.set = h0R.set from View.set_slice_whole _ _, show r1.view.set = h1R.set from View.set_slice_whole _ _]
  refine (pointsTo_join h_disj).trans ?_
  rw [h_union]; iintro H; iexists _; iexact H

/-! ## The schedule -/

def amt : ℕ → ℕ
  | 0 => 1 | 3 => Ns | 6 => Ns | _ => Nq
theorem amt_pos (k : ℕ) : 0 < amt k := by
  unfold amt; split <;> first | exact Nat.one_pos | exact Ns_pos | exact Nq_pos

/-- What the round of cell `k` of device `c` hands to `c`. -/
def pay (k : ℕ) (c : Dev nD) : sProp 𝕄 := match k with
  | 0 => iprop((∃ f, pts r0 (σ c) f) ∗ (∃ f, pts r1 (σ c) f) ∗ ∃ f, pts tM (σ c) f)
  | 1 => iprop(∃ f, pts q0 c f)
  | 2 => iprop(∃ f, pts q1 c f)
  | 3 => iprop(∃ f, pts sM c f)
  | 4 => iprop(∃ f, ⌜r0.view.read (Elt F) f = qLo (xstg m ρ (σ.symm c))⌝ ∗ pts r0 c f)
  | 5 => iprop(∃ f, ⌜r1.view.read (Elt F) f = qHi (xstg m ρ (σ.symm c))⌝ ∗ pts r1 c f)
  | 6 => iprop(∃ f, ⌜f = scl (xstg m ρ (σ.symm c))⌝ ∗ pts tM c f)
  | _ => iprop(emp)

instance pay_storable (k : ℕ) (c : Dev nD) : BI.Storable (upEmb : UEmb _ 𝕄) (pay σ m ρ k c) := by
  unfold pay; split <;> infer_instance

def rd : Rounds.Schedule (GSem nD τ sig) Unit 𝕄 where
  duties g r := if r = 0 ∧ g.1.2 = .tc ∧ idxOf g.2 < 7 then {()} else ∅
  unitless _ := False
  amount g _ _ := amt (idxOf g.2)
  payload g _ _ := pay σ m ρ (idxOf g.2) g.1.1
  amount_pos g _ _ _ := amt_pos _

instance rd_payload_storable (g : GSem nD τ sig) (r : ℕ) (d : Unit) :
    BI.Storable (upEmb : UEmb _ 𝕄) ((rd σ m ρ).payload g r d) := by
  show BI.Storable upEmb (pay σ m ρ (idxOf g.2) g.1.1); infer_instance

section Sched
variable (c : Dev nD) (k : Fin 7)

theorem duties_cell : (rd σ m ρ).duties (cell c k) 0 = {()} := by
  dsimp only [rd]; exact if_pos ⟨rfl, rfl, by rw [idx_csem]; exact k.isLt⟩
theorem duties_later (g : GSem nD τ sig) : ∀ r, 1 ≤ r → (rd σ m ρ).duties g r = ∅ :=
  fun r hr => by dsimp only [rd]; rw [if_neg fun h => by omega]
theorem amount_cell : (rd σ m ρ).amount (cell c k) 0 () = amt k.val := by
  dsimp only [rd]; rw [idx_csem]
theorem payload_cell : (rd σ m ρ).payload (cell c k) 0 () = pay σ m ρ k.val c := by
  dsimp only [rd]; rw [idx_csem]
theorem expect_cell : (rd σ m ρ).expect (cell c k) 0 = amt k.val := by
  unfold Schedule.expect Schedule.amountOf; rw [duties_cell, Finset.sum_singleton, amount_cell]
theorem rest_cell : bigSep ((rd σ m ρ).duties (cell c k) 0 \ ∅) (fun d => (rd σ m ρ).payload (cell c k) 0 d) = pay σ m ρ k.val c := by
  rw [Finset.sdiff_empty, duties_cell, bigSep_singleton, payload_cell]

end Sched

/-! ## What each device owes; the levels -/

/-- Device `c` owes its source one barrier unit and its destination the three receive credits, in the order it pays. -/
def O₃ (c : Dev nD) : CellTallies nD τ sig Unit := tallyAt (cell (σ c) 5) () Nq
def O₂ (c : Dev nD) : CellTallies nD τ sig Unit := O₃ σ c + tallyAt (cell (σ c) 4) () Nq
def O₁ (c : Dev nD) : CellTallies nD τ sig Unit := O₂ σ c + tallyAt (cell (σ c) 6) () Ns
def O₀ (c : Dev nD) : CellTallies nD τ sig Unit := O₁ σ c + tallyAt (cell (σ.symm c) 0) () 1

def L (g : GSem nD τ sig) : Finset Unit := if g.1.2 = .tc then {()} else ∅
/-- The barrier at 1, the receive semaphores at 2, all others at 0. -/
def lvl : ℕ → ℕ
  | 0 => 1 | 4 => 2 | 5 => 2 | 6 => 2 | _ => 0
def lv (g : GSem nD τ sig) (_ : Unit) : ℕ := lvl (idxOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 7) : lv (cell c k) () = lvl k.val := by unfold lv; rw [idx_csem]

theorem add_pos_or {A B : CellTallies nD τ sig Unit} {g : GSem nD τ sig} {u : Unit} (h : 0 < (A + B) g u) : 0 < A g u ∨ 0 < B g u := by
  rw [Pi.add_apply, Finsupp.add_apply] at h; omega
theorem of_tally_pos {g g' : GSem nD τ sig} {n : ℕ} {u : Unit} (h : 0 < (tallyAt g' () n : CellTallies nD τ sig Unit) g u) : g = g' := by
  rw [tallyAt_apply] at h
  by_contra hn; rw [if_neg (fun h' => hn h'.1)] at h; exact Nat.lt_irrefl 0 h

theorem O₁_pos {c : Dev nD} {g : GSem nD τ sig} {u : Unit} (h : 0 < O₁ σ c g u) :
    g = cell (σ c) 4 ∨ g = cell (σ c) 5 ∨ g = cell (σ c) 6 := by
  unfold O₁ O₂ O₃ at h
  rcases add_pos_or h with h | h
  · rcases add_pos_or h with h | h
    · exact .inr (.inl (of_tally_pos h))
    · exact .inl (of_tally_pos h)
  · exact .inr (.inr (of_tally_pos h))
theorem O₀_pos {c : Dev nD} {g : GSem nD τ sig} {u : Unit} (h : 0 < O₀ σ c g u) :
    g = cell (σ.symm c) 0 ∨ g = cell (σ c) 4 ∨ g = cell (σ c) 5 ∨ g = cell (σ c) 6 := by
  unfold O₀ at h
  rcases add_pos_or h with h | h
  · exact .inr (O₁_pos σ h)
  · exact .inl (of_tally_pos h)

omit [FloatOps F] in
/-- A wait of the staging, whose semaphores lie below everything owed. -/
theorem mayWait_stage (c : Dev nD) (q : DmaSem sig) (hq : q.val < 3) (O : CellTallies nD τ sig Unit) (hO : O = O₀ σ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos σ hg with rfl | rfl | rfl | rfl <;> exact Finset.mem_singleton_self _)
      (fun p hp => by rw [Finset.mem_singleton.mp hp]; dsimp only [lv, idxOf]; rw [if_pos hq]; exact le_rfl)
      (fun g u hg => by rcases O₀_pos σ hg with rfl | rfl | rfl | rfl <;> rw [lv_cell] <;> decide)
  · rw [MayWait_zero]; iintro -; iempintro

omit [FloatOps F] in
/-- The wait on the barrier: only receive credits are owed then. -/
theorem mayWait_bar (c : Dev nD) : (levAts L lv : sProp 𝕄) ⊢ MayWait (c : Thread nD τ) (.reg barS) () (O₁ σ c) :=
  MayOwe.of_cut (L := L) (lev := lv) 1 (fun p hp => by rw [Finset.mem_singleton.mp hp, L_tc]; exact Finset.mem_singleton_self _)
    (fun g u hg => by rcases O₁_pos σ hg with rfl | rfl | rfl <;> exact Finset.mem_singleton_self _)
    (fun p hp => by rw [Finset.mem_singleton.mp hp]; exact le_rfl)
    (fun g u hg => by rcases O₁_pos σ hg with rfl | rfl | rfl <;> rw [lv_cell] <;> decide)

/-! ## What a device starts from and ends with -/

/-- The invariants of all cells, and that each has reached its round. -/
def records (K : Dev nD × Fin 7 → ℕ) : sProp 𝕄 :=
  iprop((bigSep Finset.univ fun ck : Dev nD × Fin 7 => cellInv ER (rd σ m ρ) (K ck) (kcell ck))
    ∗ bigSep Finset.univ fun ck : Dev nD × Fin 7 => reached ER (kcell ck) 0)

instance records_persistent (K : Dev nD × Fin 7 → ℕ) : BI.Persistent (records σ m ρ K) := by unfold records; infer_instance

theorem inv_at (K : Dev nD × Fin 7 → ℕ) (c : Dev nD) (k : Fin 7) :
    records σ m ρ K ⊢ cellInv ER (rd σ m ρ) (K (c, k)) (cell c k) := by
  have h : (bigSep Finset.univ fun ck : Dev nD × Fin 7 => (cellInv ER (rd σ m ρ) (K ck) (kcell ck) : sProp 𝕄))
      ⊢ cellInv ER (rd σ m ρ) (K (c, k)) (cell c k) := bigSep_elim (Finset.mem_univ (c, k))
  unfold records; iintro ⟨#HI, -⟩
  iapply h; iexact HI
theorem reached_at (K : Dev nD × Fin 7 → ℕ) (c : Dev nD) (k : Fin 7) :
    records σ m ρ K ⊢ reached ER (cell c k) 0 := by
  have h : (bigSep Finset.univ fun ck : Dev nD × Fin 7 => (reached ER (kcell ck) 0 : sProp 𝕄))
      ⊢ reached ER (cell c k) 0 := bigSep_elim (Finset.mem_univ (c, k))
  unfold records; iintro ⟨-, #HR⟩
  iapply h; iexact HR

/-- The duties device `c` pays. -/
def payToks (c : Dev nD) : sProp 𝕄 :=
  iprop(dutyTok ER (cell (σ.symm c) 0) 0 () ∗ dutyTok ER (cell c 1) 0 () ∗ dutyTok ER (cell c 2) 0 () ∗ dutyTok ER (cell c 3) 0 ()
    ∗ dutyTok ER (cell (σ c) 4) 0 () ∗ dutyTok ER (cell (σ c) 5) 0 () ∗ dutyTok ER (cell (σ c) 6) 0 ())

/-- Its positions at its own seven cells. -/
def poss (c : Dev nD) : sProp 𝕄 := bigSep Finset.univ fun k : Fin 7 => atPos ER (cell c k) 0 ∅ 0

def ghost (K : Dev nD × Fin 7 → ℕ) (c : Dev nD) : sProp 𝕄 :=
  iprop(records σ m ρ K ∗ poss c ∗ payToks σ c)

def credits (c : Dev nD) : sProp 𝕄 :=
  iprop(cred (tallyAt (cell c 0) () 1) ∗ cred (tallyAt (cell c 4) () Nq) ∗ cred (tallyAt (cell c 5) () Nq) ∗ cred (tallyAt (cell c 6) () Ns))

def start (c : Dev nD) : sProp 𝕄 := iprop((∃ K, ghost σ m ρ K c) ∗ credits c ∗ levAts L lv)

/-- The four scratch buffers, whole, at some contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start σ m ρ c ∗ bufs c)
/-- Afterwards: the buffers, and the seven counters at zero. -/
def Φ₁ (c : Dev nD) : sProp 𝕄 := iprop(bufs c ∗ bigSep Finset.univ fun k : Fin 7 => semVal (cell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
    | ⟨1, _⟩ => xstg m ρ c
    | ⟨2, _⟩ => outAt σ m ρ c
  Φ t := match t with
    | ⟨0, _⟩ => Φ₀ σ m ρ c
    | ⟨_ + 1, _⟩ => Φ₁ (F := F) c
  q _ := fullShare
  owed t := match t with
    | ⟨0, _⟩ => O₀ σ c
    | ⟨_ + 1, _⟩ => 0

/-- The launch's one point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Shuffle

end
-- ==== Proof.Table.lean ====
/-
# The permutation shuffle: what the table's words say

The kernel reads its destination from the table at its own number, and finds its source by searching the table for
its own number. Where the table lists a permutation `σ` the first is `σ c` and the second `σ⁻¹ c`.
-/
module

public import proofs.«01_k».proof.Proof.Protocol

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Dev nD))

abbrev 𝒱₀ : Variants := Variants.none

/-- The index of the table's entry `j`. -/
def i8 (j : Dev nD) : S8.Idx := fun a => ⟨j.val, by fin_cases a; exact j.isLt⟩

/-- The table lists the permutation `σ`. -/
def Lists (ts : S8.Idx → BitVec 32) : Prop := ∀ j : Dev nD, ts (i8 j) = BitVec.ofNat 32 (σ j).val

theorem toNat_dev (d : Dev nD) : (BitVec.ofNat 32 d.val).toNat = d.val := by
  rw [BitVec.toNat_ofNat]; exact Nat.mod_eq_of_lt (lt_trans d.isLt (by decide))
theorem word_inj {a b : Dev nD} (h : BitVec.ofNat 32 a.val = BitVec.ofNat 32 b.val) : a = b :=
  Fin.ext (by rw [← toNat_dev a, ← toNat_dev b, h])

omit [FloatOps F] in
/-- One word loaded from the table. -/
theorem word_read (ts : (cc0_stg0_0 : Ref sig .tc).ty.Contents (Elt F)) (j : Dev nD) {off : Fin 1 → ℕ} (h : off = ![j.val])
    (inb : ∀ a, off a + S1.size a ≤ S8.size a) (x : S1.Idx) :
    (tabM.access (Rect.unit (s := S8) off S1.size inb) : View sig .tc _ _ _).read (Elt F) ts x = ts (i8 j) := by
  subst h
  rw [View.read_apply]
  show ts _ = ts _
  congr 1
  funext a
  fin_cases a
  apply Fin.ext
  have hx : (x 0).val = 0 := by have := (x 0).isLt; change _ < 1 at this; omega
  show j.val + 1 * (x 0).val = j.val
  rw [hx]; omega

/-- The comparison and the choice of one trip of the search. -/
theorem select_eq (a b x y : BitVec 32) : Scalar.select (Scalar.cmpi .eq a b) x y = if a = b then x else y := by
  by_cases h : a = b
  · simp [Scalar.cmpi, Scalar.select, IntOp.cmpi, h]
  · simp [Scalar.cmpi, Scalar.select, IntOp.cmpi, h, beq_eq_false_iff_ne.mpr h]

/-- A device's own number, as the kernel computes it from its id. -/
theorem my_word (c : Dev nD) : Scalar.remsi (Scalar.divsi (Dev.word c) 1#32) 8#32 = BitVec.ofNat 32 c.val := by
  revert c; decide

theorem trips_eq : k0_t1_loop.trips = 8 := by decide

theorem iv_eq (k : Fin k0_t1_loop.trips) : Scf.iv 0#32 1#32 k = BitVec.ofNat 32 k.val := by
  revert k; decide

/-- The search: before trip `k` the carried word names `σ⁻¹ c` if that is one of the entries already seen. -/
theorem wp_search (c : Dev nD) (ts : (cc0_stg0_0 : Ref sig .tc).ty.Contents (Elt F)) (hts : Lists σ ts)
    (arg1 : Memref sig .tc .vmem S1x256x256 .bf16) (harg1 : arg1.IsWhole) (arg2 : Memref sig .tc .vmem S1x256x256 .bf16) (harg2 : arg2.IsWhole)
    (arg3 : Memref sig .tc .vmem S1x256x256 .i8) (harg3 : arg3.IsWhole) (arg4 : Memref sig .tc .vmem S1x256x256 .i8) (harg4 : arg4.IsWhole)
    (arg5 : Memref sig .tc .vmem S8x128 .f32) (harg5 : arg5.IsWhole) (arg6 : Memref sig .tc .vmem S8x128 .f32) (harg6 : arg6.IsWhole)
    (arg7 arg8 : DmaSems sig S3) (v : BitVec 32) (hv : v = BitVec.ofNat 32 c.val)
    {α : Type} {Q : α → sProp 𝕄} {kk : BitVec 32 → Prog (TpuEff nD τ sig (Elt F) Λ₀ .tc) α} :
    iprop((((c : Thread nD τ).loc cc0_stg0_0) ↦{fullShare} ts : sProp 𝕄))
      ⊢ iprop((((((c : Thread nD τ).loc cc0_stg0_0) ↦{fullShare} ts : sProp 𝕄))
            -∗ wp frame (wpE (defs₀ (F := F)) 𝒱₀ (c : Thread nD τ) none) Set.univ (kk (BitVec.ofNat 32 (σ.symm c).val)) Q)
          -∗ wp frame (wpE (defs₀ (F := F)) 𝒱₀ (c : Thread nD τ) none) Set.univ
              (Scf.Loop.for k0_t1_loop k0_t1_ok 0#32 (k0_t1_body tabM (Memref.isWhole_whole _) arg1 harg1 arg2 harg2 arg3 harg3 arg4 harg4 arg5 harg5 arg6 harg6 arg7 arg8 v) >>= kk) Q) := by
  subst hv
  have hstep := Scf.wp_for_bind (E := TpuEff nD τ sig (Elt F) Λ₀ .tc) frame (wpE (defs₀ (F := F)) 𝒱₀ (c : Thread nD τ) none) Set.univ
    k0_t1_loop.lb k0_t1_loop.ub k0_t1_loop.st k0_t1_ok (0#32)
    (k0_t1_body tabM (Memref.isWhole_whole _) arg1 harg1 arg2 harg2 arg3 harg3 arg4 harg4 arg5 harg5 arg6 harg6 arg7 arg8 (BitVec.ofNat 32 c.val))
    (fun k acc => iprop((((c : Thread nD τ).loc cc0_stg0_0) ↦{fullShare} ts : sProp 𝕄) ∗ ⌜acc = if (σ.symm c).val < k then BitVec.ofNat 32 (σ.symm c).val else 0#32⌝))
    (fun k acc => by
      have hk8 : k.val < 8 := lt_of_lt_of_eq k.isLt trips_eq
      unfold k0_t1_body
      simp only [smemLoad, smemLoadElt, Prog.lift, Prog.bind_op, Prog.bind_ret, Prog.pure_eq_ret, Prog.bind_assoc]
      iintro ⟨Ht, %hacc⟩
      iapply (wp_load_rect 𝒱₀ (c : Thread nD τ) none Set.univ (m := tabM) (r := Rect.unit (s := S8) (k0_off2 k) S1.size (k0_off2_inb k)) (S := Finset.univ) (f := ts) (Finset.subset_univ _)) $$ Ht; iintro Ht
      rw [wp_ret]; imodintro
      isplitl [Ht]; · iexact Ht
      ipureintro
      rw [word_read ts (⟨k.val, hk8⟩ : Dev nD) (k0_off2_eq k), hts, iv_eq, hacc]
      by_cases h : σ (⟨k.val, hk8⟩ : Dev nD) = c
      · have hs : σ.symm c = ⟨k.val, hk8⟩ := by rw [← h, Equiv.symm_apply_apply]
        rw [h, hs, if_pos (Nat.lt_succ_self _)]
        exact (select_eq _ _ _ _).trans (if_pos rfl)
      · have hs : (σ.symm c).val ≠ k.val := fun he => h (by
          have : σ.symm c = (⟨k.val, hk8⟩ : Dev nD) := Fin.ext he
          rw [← this, Equiv.apply_symm_apply])
        have hne : BitVec.ofNat 32 (σ (⟨k.val, hk8⟩ : Dev nD)).val ≠ BitVec.ofNat 32 c.val := fun he => h (word_inj he)
        have hiff : ((σ.symm c).val < k.val + 1) = ((σ.symm c).val < k.val) := propext (by omega)
        simp only [hiff]
        exact (select_eq _ _ _ _).trans (if_neg hne))
    (Q := Q) (kk := kk)
  iintro Ht Hk
  iapply hstep $$ [Ht]
  · isplitl [Ht]; · iexact Ht
    ipureintro; rw [if_neg (Nat.not_lt_zero _)]
  iintro %acc ⟨Ht, %hacc⟩
  rw [if_pos (by show (σ.symm c).val < k0_t1_loop.trips; rw [trips_eq]; exact (σ.symm c).isLt)] at hacc
  subst hacc
  iapply Hk; iexact Ht

end Cert.Shuffle

end
-- ==== Proof.Steps.lean ====
/-
# The permutation shuffle: the protocol's effects, one rule each

The signal, the wait on the barrier, an addressed transfer, a wait for a transfer and the closing of a semaphore, each
stated at a numbered semaphore of the protocol with the records of all semaphores at hand.
-/
module

public import proofs.«01_k».proof.Proof.Table

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)
variable (K : Dev nD × Fin 7 → ℕ)

theorem mem_duties (c : Dev nD) (k : Fin 7) : () ∈ (rd σ m ρ).duties (cell c k) 0 := by
  rw [duties_cell]; exact Finset.mem_singleton_self _

/-- The signal to the source's barrier hands over what the round of that barrier promises. -/
theorem wp_signalC (c n : Dev nD) (hn : n = σ.symm c) {a : ℕ} (ha : a = 1)
    {α : Type} {Q : α → sProp 𝕄} {k : PUnit → Prog (TpuEff nD τ sig (Elt F) Λ₀ .tc) α} (W : Waits sig Unit) :
    iprop(records σ m ρ K ∗ owes (c : Thread nD τ) (O₀ σ c) W ∗ dutyTok ER (cell (σ.symm c) 0) 0 () ∗ pay σ m ρ 0 (σ.symm c))
      ⊢ iprop((owes (c : Thread nD τ) (O₁ σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn ha
  iintro ⟨#HR, HO, Ht, Hp⟩
  iapply (Rounds.wp_signal 𝒱₀ ER (rd σ m ρ) (c : Thread nD τ) none (dst := (σ.symm c : Thread nD τ)) (κ := K (σ.symm c, 0))
      (d := ()) (r := 0) (mem_duties σ m ρ (σ.symm c) 0) (amount_cell σ m ρ (σ.symm c) 0) () (O₁ σ c) rfl)
  isplitr; · iapply (inv_at σ m ρ K (σ.symm c) 0); iexact HR
  isplitl [HO]; · iexact HO
  isplitl [Ht]; · iexact Ht
  isplitl [Hp]
  · rw [show (rd σ m ρ).payload ((σ.symm c : Thread nD τ), .reg barS) 0 () = pay σ m ρ 0 (σ.symm c) from payload_cell σ m ρ (σ.symm c) 0]
    iexact Hp
  iapply (reached_at σ m ρ K (σ.symm c) 0); iexact HR

/-- The wait on the own barrier hands over the destination's landing buffers. -/
theorem wp_waitBar (c : Dev nD) {a : ℕ} (ha : a = 1)
    {α : Type} {Q : α → sProp 𝕄} {k : PUnit → Prog (TpuEff nD τ sig (Elt F) Λ₀ .tc) α} (W : Waits sig Unit) :
    iprop(records σ m ρ K ∗ cred (tallyAt (cell c 0) () 1) ∗ owes (c : Thread nD τ) (O₁ σ c) W ∗ levAts L lv ∗ atPos ER (cell c 0) 0 ∅ 0)
      ⊢ iprop(((owes (c : Thread nD τ) (O₁ σ c) (insert (csem 0, ()) W) ∗ atPos ER (cell c 0) (0 + 1) ∅ 0 ∗ pay σ m ρ 0 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#HR, Hc, HO, #Hlev, Hat⟩ Hk
  iapply (Rounds.wp_wait_rest_token 𝒱₀ ER (rd σ m ρ) (c : Thread nD τ) none (κ := K (c, 0))
      (wpE_semWait_eq 𝒱₀ (c : Thread nD τ) none Set.univ) (Set.mem_univ _) () (O := O₁ σ c) (W := W) (R := 0) (m := 0) (T := ∅)
      ((Nat.zero_add 1).trans (expect_cell σ m ρ c 0).symm)) $$ [Hc HO Hat]
  · isplitr; · iapply (inv_at σ m ρ K c 0); iexact HR
    isplitl [Hc]; · iexact Hc
    isplitl [HO]; · iexact HO
    isplitr; · iapply (mayWait_bar σ c); iexact Hlev
    iexact Hat
  iintro ⟨HO, Hat, -, Hpay⟩
  iapply Hk
  isplitl [HO]; · iexact HO
  isplitl [Hat]; · iexact Hat
  iapply (Entails.of_eq (rest_cell σ m ρ c 0)); iexact Hpay

/-- A wait for a transfer, after all debts are paid or while some remain that the wait may be under. -/
theorem wp_waitC (c : Dev nD) (k : Fin 7) {s s' : Shape} {e e' : EltTy} (src : Memref sig .tc .vmem s' e') (dst : Memref sig .tc .vmem s e)
    {q : DmaSem sig} (hq : SemLoc.dma q = csem k) {hsrc : src.view.WordExact} {hdst : dst.view.WordExact} (hN : dst.view.dmaCredit = amt k.val)
    {α : Type} {Q : α → sProp 𝕄} {kk : PUnit → Prog (TpuEff nD τ sig (Elt F) Λ₀ .tc) α} (W : Waits sig Unit) :
    iprop(records σ m ρ K ∗ cred (tallyAt (cell c k) () (amt k.val)) ∗ owes (c : Thread nD τ) 0 W ∗ atPos ER (cell c k) 0 ∅ 0)
      ⊢ iprop(((owes (c : Thread nD τ) 0 (insert (csem k, ()) W) ∗ atPos ER (cell c k) (0 + 1) ∅ 0 ∗ pay σ m ρ k.val c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  have hcell : cell c k = ((c : Thread nD τ), SemLoc.dma q) := by rw [hq]
  have hE := expect_cell σ m ρ c k
  have hR := rest_cell σ m ρ c k
  have hI := inv_at σ m ρ K c k
  rw [hcell] at hE hR hI ⊢
  rw [← hq]
  rw [← hN] at hE ⊢
  iintro ⟨#HR, Hc, HO, Hat⟩ Hk
  iapply (Rounds.wp_wait_rest_token 𝒱₀ ER (rd σ m ρ) (c : Thread nD τ) none (κ := K (c, k))
      (wpE_waitDma2_eq 𝒱₀ (c : Thread nD τ) none Set.univ) (Set.mem_univ _) () (O := 0) (W := W) (R := 0) (m := 0) (T := ∅)
      ((Nat.zero_add _).trans hE.symm)) $$ [Hc HO Hat]
  · isplitr; · iapply hI; iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hR); iexact Hpay

/-- A transfer to the destination. -/
theorem wp_sendC (c n : Dev nD) (hn : n = σ c) (k₁ k₂ : Fin 7) {s : Shape} {e : EltTy} (src dst : Memref sig .tc .vmem s e)
    {sS sR : DmaSem sig} (h₁ : SemLoc.dma sS = csem k₁) (h₂ : SemLoc.dma sR = csem k₂)
    {hsc : (dst : Memref sig (Dev.tc n : Thread nD τ).2.kind .vmem s e).view.ref.isScScratch = false}
    {hsrc : src.view.WordExact} {hdst : dst.view.WordExact}
    {hsem : DmaTarget.Typed .vmem (.dma sR) (.remote (Dev.tc n : Thread nD τ) dst (.dma sS) hsc)}
    (N : ℕ) (hN : dst.view.amount (.dma sR : SemLoc sig) = N) (hk₁ : amt k₁.val = N) (hk₂ : amt k₂.val = N)
    {α : Type} {Q : α → sProp 𝕄} {k : PUnit → Prog (TpuEff nD τ sig (Elt F) Λ₀ .tc) α}
    (fs : Buf (Elt F) (src.view.loc (c : Thread nD τ))) (fd : Buf (Elt F) (dst.view.loc (σ c : Thread nD τ)))
    (hpay₁ : pts src c fs ⊢ pay σ m ρ k₁.val c)
    (hpay₂ : pts dst (σ c) (dst.view.write (Elt F) fd (src.view.read (Elt F) fs) Finset.univ) ⊢ pay σ m ρ k₂.val (σ c))
    (O O' : CellTallies nD τ sig Unit) (hO : O' = O + tallyAt (cell (σ c) k₂) () N) (W : Waits sig Unit) :
    iprop(records σ m ρ K ∗ pts src c fs ∗ pts dst (σ c) fd ∗ owes (c : Thread nD τ) O' W
        ∗ dutyTok ER (cell c k₁) 0 () ∗ dutyTok ER (cell (σ c) k₂) 0 ())
      ⊢ iprop(((cred (tallyAt (cell c k₁) () (amt k₁.val)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  have hc₁ : cell c k₁ = ((c : Thread nD τ), SemLoc.dma sS) := by rw [h₁]
  have hc₂ : cell (σ c) k₂ = ((σ c : Thread nD τ), SemLoc.dma sR) := by rw [h₂]
  have hd₁ := mem_duties σ m ρ c k₁
  have hd₂ := mem_duties σ m ρ (σ c) k₂
  have ha₁ := (amount_cell σ m ρ c k₁).trans hk₁
  have ha₂ := (amount_cell σ m ρ (σ c) k₂).trans hk₂
  have hp₁ := payload_cell σ m ρ c k₁
  have hp₂ := payload_cell σ m ρ (σ c) k₂
  have hI₁ := inv_at σ m ρ K c k₁
  have hI₂ := inv_at σ m ρ K (σ c) k₂
  have hr₁ := reached_at σ m ρ K c k₁
  have hr₂ := reached_at σ m ρ K (σ c) k₂
  rw [hk₁]
  rw [hc₁] at hd₁ ha₁ hp₁ hI₁ hr₁ ⊢
  rw [hc₂] at hd₂ ha₂ hp₂ hI₂ hr₂ hO ⊢
  iintro ⟨#HR, Hs, Hd, HO, Ht₁, Ht₂⟩
  unfold pts at hpay₁ hpay₂ ⊢
  iapply (Rounds.wp_send_pointsTo 𝒱₀ ER (rd σ m ρ) (c : Thread nD τ) none (κ₁ := K (c, k₁)) (κ₂ := K (σ c, k₂))
    (r₁ := 0) (r₂ := 0) (d₁ := ()) (d₂ := ()) (fs := fs) (fd := fd) hd₁ hd₂ () () N hN ha₁ ha₂ O hO (W := W)
    (by rw [hp₁]; exact hpay₁) (by rw [hp₂]; exact hpay₂))
  isplitr; · iapply hI₁; iexact HR
  isplitr; · iapply hI₂; iexact HR
  isplitl [Hs]; · iexact Hs
  isplitl [Hd]; · iexact Hd
  isplitl [HO]; · iexact HO
  isplitl [Ht₁]; · iexact Ht₁
  isplitr; · iapply hr₁; iexact HR
  isplitl [Ht₂]; · iexact Ht₂
  iapply hr₂; iexact HR

/-- A semaphore whose round is over closes: its counter, at zero, is the device's again. -/
theorem closeC (c : Dev nD) (k : Fin 7) :
    iprop(records σ m ρ K ∗ atPos ER (cell c k) (0 + 1) ∅ 0) ⊢ iprop(|={Set.univ}=> (semVal (cell c k) 0 : sProp 𝕄)) := by
  iintro ⟨#HR, Hat⟩
  iapply (Rounds.cell_close ER (rd σ m ρ) (Set.mem_univ (K (c, k))) (fun h => h) (R := 0 + 1) (duties_later σ m ρ (cell c k)))
  isplitr; · iapply (inv_at σ m ρ K c k); iexact HR
  iexact Hat

end Cert.Shuffle

end
-- ==== Proof.Body.lean ====
/-
# The permutation shuffle: the kernel's body on one device

The body is run once at a symbolic device `c`, effect by effect, from what the device starts with to what it ends with.
-/
module

public import proofs.«01_k».proof.Proof.Steps

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Dev nD × Fin 7 → ℕ)

def bodyPre (c : Dev nD) : sProp 𝕄 :=
  iprop((ghost σ m ρ K c ∗ credits c ∗ levAts L lv ∗ bufs c)
    ∗ (dats σ m ρ 0 c).owesAt () t₀.castSucc
    ∗ (∃ d, stg c cc0_stg0_0 ((dats σ m ρ 0 c).before (0 : Fin 3) t₀ d))
    ∗ (∃ d, stg c cc0_stg1_0 ((dats σ m ρ 0 c).before (1 : Fin 3) t₀ d))
    ∗ (∃ d, stg c cc0_stg2_0 ((dats σ m ρ 0 c).before (2 : Fin 3) t₀ d)))

def bodyPost (c : Dev nD) : sProp 𝕄 :=
  iprop(Φ₁ c ∗ (dats σ m ρ 0 c).owesAt () t₀.succ
    ∗ stg c cc0_stg0_0 (tstg m ρ c) ∗ stg c cc0_stg1_0 (xstg m ρ c) ∗ stg c cc0_stg2_0 (outAt σ m ρ c))

/-! ### What the loads and the stores of whole buffers amount to -/

theorem hz2 : (![0, 0] : Fin 2 → Nat) = fun _ => 0 := funext fun a => by fin_cases a <;> rfl
theorem hz3 : (![0, 0, 0] : Fin 3 → Nat) = fun _ => 0 := funext fun a => by fin_cases a <;> rfl

abbrev wR : Rect S1x256x256 := Rect.unit (s := S1x256x256) ![0, 0, 0] S1x256x256.size inb_S1x256x256_S1x256x256_0_0_0
abbrev wS : Rect S8x128 := Rect.unit (s := S8x128) ![0, 0] S8x128.size inb_S8x128_S8x128_0_0

omit [FloatOps F] in
theorem read_x (f : (cc0_stg1_0 : Ref sig .tc).ty.Contents (Elt F)) :
    (xM : Memref sig .tc .vmem S1x256x256 .bf16).view.readAt (Elt F) wR.toLoadRect f = f :=
  Memref.readAt_unit_zero (Elt F) cc0_stg1_0 hz3 _ f
omit [FloatOps F] in
theorem write_s (f w : (cc0_scratch2 : Ref sig .tc).ty.Contents (Elt F)) :
    ((sM : Memref sig .tc .vmem S8x128 .f32).access wS : View sig .tc _ _ _).write (Elt F) f w Finset.univ = w :=
  Memref.write_access_unit_zero_univ (Elt F) cc0_scratch2 hz2 _ f w

/-! ### The semaphores of the transfers, as the body names them -/

abbrev snd0 : DmaSem sig := ((cc0_scratch4.slice (Rect.unit (s := S3) ![0] S1.size inb_S3_S1_0)).squeeze S_ squeezes_S1_S_).sem
theorem snd0_eq : SemLoc.dma snd0 = csem 1 := rfl
abbrev rcv0 : DmaSem sig := ((cc0_scratch5.slice (Rect.unit (s := S3) ![0] S1.size inb_S3_S1_0)).squeeze S_ squeezes_S1_S_).sem
theorem rcv0_eq : SemLoc.dma rcv0 = csem 4 := rfl
abbrev snd1 : DmaSem sig := ((cc0_scratch4.slice (Rect.unit (s := S3) ![1] S1.size inb_S3_S1_1)).squeeze S_ squeezes_S1_S_).sem
theorem snd1_eq : SemLoc.dma snd1 = csem 2 := rfl
abbrev rcv1 : DmaSem sig := ((cc0_scratch5.slice (Rect.unit (s := S3) ![1] S1.size inb_S3_S1_1)).squeeze S_ squeezes_S1_S_).sem
theorem rcv1_eq : SemLoc.dma rcv1 = csem 5 := rfl
abbrev snd2 : DmaSem sig := ((cc0_scratch4.slice (Rect.unit (s := S3) ![2] S1.size inb_S3_S1_2)).squeeze S_ squeezes_S1_S_).sem
theorem snd2_eq : SemLoc.dma snd2 = csem 3 := rfl
abbrev rcv2 : DmaSem sig := ((cc0_scratch5.slice (Rect.unit (s := S3) ![2] S1.size inb_S3_S1_2)).squeeze S_ squeezes_S1_S_).sem
theorem rcv2_eq : SemLoc.dma rcv2 = csem 6 := rfl

section Pay
variable (c : Dev nD)
theorem pay_0 : pay σ m ρ 0 c = iprop((∃ f, pts r0 (σ c) f) ∗ (∃ f, pts r1 (σ c) f) ∗ ∃ f, pts tM (σ c) f) := rfl
theorem pay_1 : pay σ m ρ (1 : Fin 7).val c = iprop(∃ f, pts q0 c f) := rfl
theorem pay_2 : pay σ m ρ (2 : Fin 7).val c = iprop(∃ f, pts q1 c f) := rfl
theorem pay_3 : pay σ m ρ (3 : Fin 7).val c = iprop(∃ f, pts sM c f) := rfl
theorem pay_4 : pay σ m ρ (4 : Fin 7).val c = iprop(∃ f, ⌜r0.view.read (Elt F) f = qLo (xstg m ρ (σ.symm c))⌝ ∗ pts r0 c f) := rfl
theorem pay_5 : pay σ m ρ (5 : Fin 7).val c = iprop(∃ f, ⌜r1.view.read (Elt F) f = qHi (xstg m ρ (σ.symm c))⌝ ∗ pts r1 c f) := rfl
theorem pay_6 : pay σ m ρ (6 : Fin 7).val c = iprop(∃ f, ⌜f = scl (xstg m ρ (σ.symm c))⌝ ∗ pts tM c f) := rfl
end Pay

/-! ### What each transfer leaves is what the round promises -/

theorem pay_q0 (c : Dev nD) (f) : pts q0 c f ⊢ pay σ m ρ (1 : Fin 7).val c := by
  rw [pay_1]; iintro H; iexists f; iexact H
theorem pay_q1 (c : Dev nD) (f) : pts q1 c f ⊢ pay σ m ρ (2 : Fin 7).val c := by
  rw [pay_2]; iintro H; iexists f; iexact H
theorem pay_s (c : Dev nD) (f) : pts sM c f ⊢ pay σ m ρ (3 : Fin 7).val c := by
  rw [pay_3]; iintro H; iexists f; iexact H

theorem pay_scl (c : Dev nD) (fd : Buf (Elt F) (tM.view.loc (σ c : Thread nD τ))) :
    pts tM (σ c) (tM.view.write (Elt F) fd (sM.view.read (Elt F) (scl (xstg m ρ c))) Finset.univ) ⊢ pay σ m ρ (6 : Fin 7).val (σ c) := by
  have h : tM.view.write (Elt F) fd (sM.view.read (Elt F) (scl (xstg m ρ c))) Finset.univ = scl (xstg m ρ c) := by
    refine (View.write_whole_univ _ _ _).trans ?_
    exact View.read_whole _ _
  rw [h, pay_6, Equiv.symm_apply_apply]
  iintro H; iexists _; isplitr; · (ipureintro; rfl)
  iexact H
theorem pay_lo (c : Dev nD) (f : Buf (Elt F) (q0.view.loc (c : Thread nD τ))) (hf : q0.view.read (Elt F) f = qLo (xstg m ρ c)) (fd : Buf (Elt F) (r0.view.loc (σ c : Thread nD τ))) :
    pts r0 (σ c) (r0.view.write (Elt F) fd (q0.view.read (Elt F) f) Finset.univ) ⊢ pay σ m ρ (4 : Fin 7).val (σ c) := by
  rw [pay_4, Equiv.symm_apply_apply]
  iintro H; iexists (r0.view.write (Elt F) fd (q0.view.read (Elt F) f) Finset.univ); isplitr
  · ipureintro; exact (View.read_write_univ _ _).trans hf
  iexact H
theorem pay_hi (c : Dev nD) (f : Buf (Elt F) (q1.view.loc (c : Thread nD τ))) (hf : q1.view.read (Elt F) f = qHi (xstg m ρ c)) (fd : Buf (Elt F) (r1.view.loc (σ c : Thread nD τ))) :
    pts r1 (σ c) (r1.view.write (Elt F) fd (q1.view.read (Elt F) f) Finset.univ) ⊢ pay σ m ρ (5 : Fin 7).val (σ c) := by
  rw [pay_5, Equiv.symm_apply_apply]
  iintro H; iexists (r1.view.write (Elt F) fd (q1.view.read (Elt F) f) Finset.univ); isplitr
  · ipureintro; exact (View.read_write_univ _ _).trans hf
  iexact H

/-- What the two stores leave in the output block. -/
theorem out_eq (x : Vec F S1x256x256 .bf16) (g : (cc0_stg2_0 : Ref sig .tc).ty.Contents (Elt F))
    (f0 f1 : (cc0_scratch1 : Ref sig .tc).ty.Contents (Elt F)) (ft : (cc0_scratch3 : Ref sig .tc).ty.Contents (Elt F))
    (h0 : r0.view.read (Elt F) f0 = qLo x) (h1 : r1.view.read (Elt F) f1 = qHi x) (ht : ft = scl x) :
    (oM.access h1R : View sig .tc _ _ _).write (Elt F)
        ((oM.access h0R : View sig .tc _ _ _).write (Elt F) g
          (k0_pay7 ((rM.access h0R : View sig .tc _ _ _).read (Elt F) f0) ((tM.access r11 : View sig .tc _ _ _).read (Elt F) ft)) Finset.univ)
        (k0_pay8 ((rM.access h1R : View sig .tc _ _ _).read (Elt F) f1) ((tM.access r11 : View sig .tc _ _ _).read (Elt F) ft)) Finset.univ
      = outOf x := by
  subst ht
  rw [show (rM.access h0R : View sig .tc _ _ _).read (Elt F) f0 = qLo x from h0, show (rM.access h1R : View sig .tc _ _ _).read (Elt F) f1 = qHi x from h1]
  exact halves_cover g x _ _

omit [FloatOps F] in
theorem tM_set : (tM : Memref sig .tc .vmem S8x128 .f32).view.set = Finset.univ := View.set_whole _

theorem fetch_0 (t : Fin cfg0.N) : (cfg0.win (0 : Fin 3)).fetch t = true := fetch0_0 t
theorem fetch_1 (t : Fin cfg0.N) : (cfg0.win (1 : Fin 3)).fetch t = true := fetch0_1 t

/-- The three device numbers of the transfers are the table's entry, in range. -/
theorem chk2_dev (d : Dev nD) : k0_chk2 (BitVec.ofNat 32 d.val) := by
  revert d; decide
theorem chk1_dev (d : Dev nD) : k0_chk1 (BitVec.ofNat 32 d.val) := by
  revert d; decide
theorem dev1_eq (d : Dev nD) (h) : (⟨k0_dev1 (BitVec.ofNat 32 d.val), h⟩ : Dev nD) = d := Fin.ext (toNat_dev d)
theorem dev2_eq (d : Dev nD) (h) : (⟨k0_dev2 (BitVec.ofNat 32 d.val), h⟩ : Dev nD) = d := Fin.ext (toNat_dev d)
theorem dev3_eq (d : Dev nD) (h) : (⟨k0_dev3 (BitVec.ofNat 32 d.val), h⟩ : Dev nD) = d := Fin.ext (toNat_dev d)
theorem dev4_eq (d : Dev nD) (h) : (⟨k0_dev4 (BitVec.ofNat 32 d.val), h⟩ : Dev nD) = d := Fin.ext (toNat_dev d)

set_option maxHeartbeats 1600000 in
/-- The body, symbolically executed from `bodyPre`, one rule per effect in program order, to `bodyPost`. -/
theorem sound_body (hT : ∀ c, Lists σ (tstg m ρ c)) (c : Dev nD) (Kt : PUnit → sProp 𝕄) :
    iprop(bodyPre σ m ρ K c ∗ (bodyPost σ m ρ c -∗ Kt ⟨⟩))
      ⊢ wp frame (wpE (defs₀ (F := F)) 𝒱₀ c none) Set.univ
          (cc0_body tabM (Memref.isWhole_whole _) xM (Memref.isWhole_whole _) oM (Memref.isWhole_whole _)
            qM (Memref.isWhole_whole _) rM (Memref.isWhole_whole _) sM (Memref.isWhole_whole _) tM (Memref.isWhole_whole _)
            cc0_scratch4 cc0_scratch5) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, smemLoad, smemLoadElt, Prog.lift, Prog.bind_op, Prog.bind_ret, Prog.pure_eq_ret, Prog.bind_assoc, wp_deviceId]
  unfold bodyPre ghost poss payToks credits bufs
  rw [bigSep_fin7]
  iintro ⟨⟨⟨⟨#HR, ⟨Hat0, Hat1, Hat2, Hat3, Hat4, Hat5, Hat6⟩, ⟨Ht0, Ht1, Ht2, Ht3, Ht4, Ht5, Ht6⟩⟩, ⟨Hc0, Hc4, Hc5, Hc6⟩, #Hlev,
      ⟨⟨%fq, Hq⟩, ⟨%fr, Hr⟩, ⟨%fs, Hs⟩, ⟨%ft, Htt⟩⟩⟩,
    Ho, ⟨%d0, %g0, %hg0, Htab⟩, ⟨%d1, %g1, %hg1, Hx⟩, ⟨%d2, %g2, %hg2, Hout⟩⟩, Hk⟩
  have ht : g0 = tstg m ρ c := by rw [hg0]; unfold Dat.before; rw [if_pos (fetch_0 t₀)]; rfl
  have hx : g1 = xstg m ρ c := by rw [hg1]; unfold Dat.before; rw [if_pos (fetch_1 t₀)]; rfl
  subst ht hx
  unfold Dat.owesAt Pipeline.owesWithin
  icases Ho with ⟨%W, %hW, HO⟩
  rw [show (dats σ m ρ 0 c).owed t₀.castSucc = O₀ σ c from rfl]
  -- the table's own entry
  iapply (wp_load_rect 𝒱₀ (c : Thread nD τ) none Set.univ (m := tabM) (r := Rect.unit (s := S8) (k0_off1 c) S1.size (k0_off1_inb c)) (S := Finset.univ) (f := tstg m ρ c) (Finset.subset_univ _)) $$ Htab; iintro Htab
  generalize hv : (tabM.access (Rect.unit (s := S8) (k0_off1 c) S1.size (k0_off1_inb c)) : View sig .tc _ _ _).read (Elt F) (tstg m ρ c) _ = v
  rw [word_read (tstg m ρ c) c (k0_off1_eq c), hT c c] at hv
  subst hv
  rw [wp_assume_of _ _ _ _ (d := k0_chk2.dec _) (chk2_dev (σ c))]
  -- the search for the source
  iapply (wp_search σ c (tstg m ρ c) (hT c) _ _ _ _ _ _ _ _ _ _ _ _ _ _ _ (my_word c)) $$ Htab; iintro Htab
  rw [wp_assume_of _ _ _ _ (d := k0_chk1.dec _) (chk1_dev (σ.symm c))]
  -- the halves of the buffers of the transfers
  ihave Hq' := (q_split c fq) $$ Hq
  icases Hq' with ⟨Hq0, Hq1⟩
  ihave Hr' := (r_split c fr) $$ Hr
  icases Hr' with ⟨Hr0, Hr1⟩
  -- the signal
  iapply (wp_signalC σ m ρ K c _ (dev1_eq (σ.symm c) (k0_dev1_lt _ (chk1_dev (σ.symm c)))) rfl W) $$ [HO Ht0 Hr0 Hr1 Htt]
  · isplitr; · iexact HR
    isplitl [HO]; · iexact HO
    isplitl [Ht0]; · iexact Ht0
    rw [pay_0, Equiv.apply_symm_apply]
    isplitl [Hr0]; · iexists fr; iexact Hr0
    isplitl [Hr1]; · iexists fr; iexact Hr1
    iexists ft; rw [pts_whole]; iexact Htt
  iintro HO
  -- the quantiser: the block, the scale, the first half
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := wS) (Mk := Finset.univ) (Finset.subset_univ _)) $$ Hs; iintro Hs
  rw [write_s]
  unfold pts
  iapply (wp_load_rect 𝒱₀ (c : Thread nD τ) none Set.univ (m := qM) (r := h0R) (S := q0.view.set) (Finset.Subset.refl _)) $$ Hq0; iintro Hq0
  iapply (wp_store 𝒱₀ (c : Thread nD τ) none Set.univ (m := qM) (r := h0R) (S := q0.view.set) (Mk := Finset.univ) (Finset.Subset.refl _)) $$ Hq0; iintro Hq0
  -- the wait on the barrier
  iapply (wp_waitBar σ m ρ K c (a := 1) rfl W) $$ [Hc0 HO Hat0]
  · isplitr; · iexact HR
    isplitl [Hc0]; · iexact Hc0
    isplitl [HO]; · iexact HO
    isplitr; · iexact Hlev
    iexact Hat0
  iintro ⟨HO, Hat0, Hp⟩
  ihave Hp' := (Entails.of_eq (pay_0 σ m ρ c)) $$ Hp
  icases Hp' with ⟨⟨%gr0, Hr0⟩, ⟨%gr1, Hr1⟩, ⟨%gt, Htt⟩⟩
  -- the three transfers, the second half quantised before the third
  iapply (wp_sendC σ m ρ K c _ (dev2_eq (σ c) (k0_dev2_lt _ (chk2_dev (σ c)))) 3 6 sM tM snd2_eq rcv2_eq Ns rfl rfl rfl (scl (xstg m ρ c)) gt (pay_s σ m ρ c _) (pay_scl σ m ρ c gt)
      (O₂ σ c) (O₁ σ c) rfl _) $$ [Hs Htt HO Ht3 Ht6]
  · isplitr; · iexact HR
    isplitl [Hs]; · rw [pts_whole]; iexact Hs
    isplitl [Htt]; · iexact Htt
    isplitl [HO]; · iexact HO
    isplitl [Ht3] <;> iassumption
  iintro ⟨Hc3, HO⟩
  iapply (wp_sendC σ m ρ K c _ (dev3_eq (σ c) (k0_dev3_lt _ (chk2_dev (σ c)))) 1 4 q0 r0 snd0_eq rcv0_eq Nq rfl rfl rfl _ gr0 (pay_q0 σ m ρ c _)
      (pay_lo σ m ρ c ((qM.access h0R : View sig .tc _ _ _).write (Elt F) fq (qLo (xstg m ρ c)) Finset.univ) (View.read_write_univ _ _) gr0)
      (O₃ σ c) (O₂ σ c) rfl _) $$ [Hq0 Hr0 HO Ht1 Ht4]
  · isplitr; · iexact HR
    isplitl [Hq0]; · unfold pts; iexact Hq0
    isplitl [Hr0]; · iexact Hr0
    isplitl [HO]; · iexact HO
    isplitl [Ht1] <;> iassumption
  iintro ⟨Hc1, HO⟩
  iapply (wp_load_rect 𝒱₀ (c : Thread nD τ) none Set.univ (m := qM) (r := h1R) (S := q1.view.set) (Finset.Subset.refl _)) $$ Hq1; iintro Hq1
  iapply (wp_store 𝒱₀ (c : Thread nD τ) none Set.univ (m := qM) (r := h1R) (S := q1.view.set) (Mk := Finset.univ) (Finset.Subset.refl _)) $$ Hq1; iintro Hq1
  iapply (wp_sendC σ m ρ K c _ (dev4_eq (σ c) (k0_dev4_lt _ (chk2_dev (σ c)))) 2 5 q1 r1 snd1_eq rcv1_eq Nq rfl rfl rfl _ gr1 (pay_q1 σ m ρ c _)
      (pay_hi σ m ρ c ((qM.access h1R : View sig .tc _ _ _).write (Elt F) fq (qHi (xstg m ρ c)) Finset.univ) (View.read_write_univ _ _) gr1)
      0 (O₃ σ c) (zero_add _).symm _) $$ [Hq1 Hr1 HO Ht2 Ht5]
  · isplitr; · iexact HR
    isplitl [Hq1]; · unfold pts; iexact Hq1
    isplitl [Hr1]; · iexact Hr1
    isplitl [HO]; · iexact HO
    isplitl [Ht2] <;> iassumption
  iintro ⟨Hc2, HO⟩
  -- the scale has arrived
  iapply (wp_waitC σ m ρ K c 6 sM tM rcv2_eq rfl _) $$ [Hc6 HO Hat6]
  · isplitr; · iexact HR
    isplitl [Hc6]; · iexact Hc6
    isplitl [HO] <;> iassumption
  iintro ⟨HO, Hat6, Hp⟩
  ihave Hp' := (Entails.of_eq (pay_6 σ m ρ c)) $$ Hp
  icases Hp' with ⟨%ht, %hht, Htt⟩
  -- the first half
  iapply (wp_waitC σ m ρ K c 4 q0 r0 rcv0_eq rfl _) $$ [Hc4 HO Hat4]
  · isplitr; · iexact HR
    isplitl [Hc4]; · iexact Hc4
    isplitl [HO] <;> iassumption
  iintro ⟨HO, Hat4, Hp⟩
  ihave Hp' := (Entails.of_eq (pay_4 σ m ρ c)) $$ Hp
  icases Hp' with ⟨%hr0, %hhr0, Hr0⟩
  unfold pts
  iapply (wp_load_rect 𝒱₀ (c : Thread nD τ) none Set.univ (m := rM) (r := h0R) (S := r0.view.set) (Finset.Subset.refl _)) $$ Hr0; iintro Hr0
  iapply (wp_load_rect 𝒱₀ (c : Thread nD τ) none Set.univ (m := tM) (r := r11) (S := tM.view.set) (by rw [tM_set]; exact Finset.subset_univ _)) $$ Htt; iintro Htt
  iapply (wp_load_rect 𝒱₀ (c : Thread nD τ) none Set.univ (m := oM) (r := h0R) (S := Finset.univ) (Finset.subset_univ _)) $$ Hout; iintro Hout
  iapply (wp_store 𝒱₀ (c : Thread nD τ) none Set.univ (m := oM) (r := h0R) (S := Finset.univ) (Mk := Finset.univ) (Finset.subset_univ _)) $$ Hout; iintro Hout
  -- the second half
  iapply (wp_waitC σ m ρ K c 5 q1 r1 rcv1_eq rfl _) $$ [Hc5 HO Hat5]
  · isplitr; · iexact HR
    isplitl [Hc5]; · iexact Hc5
    isplitl [HO] <;> iassumption
  iintro ⟨HO, Hat5, Hp⟩
  ihave Hp' := (Entails.of_eq (pay_5 σ m ρ c)) $$ Hp
  icases Hp' with ⟨%hr1, %hhr1, Hr1⟩
  unfold pts
  iapply (wp_load_rect 𝒱₀ (c : Thread nD τ) none Set.univ (m := rM) (r := h1R) (S := r1.view.set) (Finset.Subset.refl _)) $$ Hr1; iintro Hr1
  iapply (wp_load_rect 𝒱₀ (c : Thread nD τ) none Set.univ (m := tM) (r := r11) (S := tM.view.set) (by rw [tM_set]; exact Finset.subset_univ _)) $$ Htt; iintro Htt
  iapply (wp_load_rect 𝒱₀ (c : Thread nD τ) none Set.univ (m := oM) (r := h1R) (S := Finset.univ) (Finset.subset_univ _)) $$ Hout; iintro Hout
  iapply (wp_store 𝒱₀ (c : Thread nD τ) none Set.univ (m := oM) (r := h1R) (S := Finset.univ) (Mk := Finset.univ) (Finset.subset_univ _)) $$ Hout; iintro Hout
  -- the transfers of this device are done
  iapply (wp_waitC σ m ρ K c 1 r0 q0 snd0_eq rfl _) $$ [Hc1 HO Hat1]
  · isplitr; · iexact HR
    isplitl [Hc1]; · iexact Hc1
    isplitl [HO] <;> iassumption
  iintro ⟨HO, Hat1, Hp⟩
  ihave Hp' := (Entails.of_eq (pay_1 σ m ρ c)) $$ Hp
  icases Hp' with ⟨%hq0, Hq0⟩
  iapply (wp_waitC σ m ρ K c 2 r1 q1 snd1_eq rfl _) $$ [Hc2 HO Hat2]
  · isplitr; · iexact HR
    isplitl [Hc2]; · iexact Hc2
    isplitl [HO] <;> iassumption
  iintro ⟨HO, Hat2, Hp⟩
  ihave Hp' := (Entails.of_eq (pay_2 σ m ρ c)) $$ Hp
  icases Hp' with ⟨%hq1, Hq1⟩
  iapply (wp_waitC σ m ρ K c 3 tM sM snd2_eq rfl _) $$ [Hc3 HO Hat3]
  · isplitr; · iexact HR
    isplitl [Hc3]; · iexact Hc3
    isplitl [HO] <;> iassumption
  iintro ⟨HO, Hat3, Hp⟩
  ihave Hp' := (Entails.of_eq (pay_3 σ m ρ c)) $$ Hp
  icases Hp' with ⟨%hs, Hs⟩
  rw [out_eq (xstg m ρ (σ.symm c)) g2 hr0 hr1 ht hhr0 hhr1 hht]
  imod (closeC σ m ρ K c 0) $$ [Hat0] with Hz0
  · isplitr; · iexact HR
    iexact Hat0
  imod (closeC σ m ρ K c 1) $$ [Hat1] with Hz1
  · isplitr; · iexact HR
    iexact Hat1
  imod (closeC σ m ρ K c 2) $$ [Hat2] with Hz2
  · isplitr; · iexact HR
    iexact Hat2
  imod (closeC σ m ρ K c 3) $$ [Hat3] with Hz3
  · isplitr; · iexact HR
    iexact Hat3
  imod (closeC σ m ρ K c 4) $$ [Hat4] with Hz4
  · isplitr; · iexact HR
    iexact Hat4
  imod (closeC σ m ρ K c 5) $$ [Hat5] with Hz5
  · isplitr; · iexact HR
    iexact Hat5
  imod (closeC σ m ρ K c 6) $$ [Hat6] with Hz6
  · isplitr; · iexact HR
    iexact Hat6
  rw [wp_ret]; imodintro
  iapply Hk
  unfold bodyPost Φ₁ Dat.owesAt Pipeline.owesWithin bufs
  rw [show (dats σ m ρ 0 c).owed t₀.succ = 0 from rfl, bigSep_fin7]
  isplitl [Hq0 Hq1 Hr0 Hr1 Hs Htt Hz0 Hz1 Hz2 Hz3 Hz4 Hz5 Hz6]
  · isplitl [Hq0 Hq1 Hr0 Hr1 Hs Htt]
    · isplitl [Hq0 Hq1]
      · iapply (q_join c hq0 hq1); isplitl [Hq0] <;> iassumption
      isplitl [Hr0 Hr1]
      · iapply (r_join c hr0 hr1); isplitl [Hr0]
        · unfold pts; iexact Hr0
        · unfold pts; iexact Hr1
      isplitl [Hs]
      · iexists hs; iapply (Entails.of_eq (pts_whole cc0_scratch2 c hs)); iexact Hs
      · iexists ht; iapply (Entails.of_eq (pts_whole cc0_scratch3 c ht)); unfold pts; iexact Htt
    isplitl [Hz0]; · iexact Hz0
    isplitl [Hz1]; · iexact Hz1
    isplitl [Hz2]; · iexact Hz2
    isplitl [Hz3]; · iexact Hz3
    isplitl [Hz4]; · iexact Hz4
    isplitl [Hz5] <;> iassumption
  isplitl [HO]
  · iexists _
    isplitr; swap; · iexact HO
    ipureintro; exact fun _ _ => Or.inl trivial
  isplitl [Htab]
  · iexists _; isplitr; · (ipureintro; rfl)
    iexact Htab
  isplitl [Hx]
  · iexists _; isplitr; · (ipureintro; rfl)
    iexact Hx
  iexists _; isplitr; · (ipureintro; rfl)
  iexact Hout

def bodyPre' (c : Dev nD) : sProp 𝕄 :=
  iprop(Φ₀ σ m ρ c ∗ (dats σ m ρ 0 c).owesAt () t₀.castSucc
    ∗ (∃ d, stg c cc0_stg0_0 ((dats σ m ρ 0 c).before (0 : Fin 3) t₀ d))
    ∗ (∃ d, stg c cc0_stg1_0 ((dats σ m ρ 0 c).before (1 : Fin 3) t₀ d))
    ∗ (∃ d, stg c cc0_stg2_0 ((dats σ m ρ 0 c).before (2 : Fin 3) t₀ d)))

set_option maxRecDepth 4000 in
/-- What the launch asks of the body on device `c`. -/
theorem body_obligation (hT : ∀ c, Lists σ (tstg m ρ c)) (c : Dev nD) :
    BodyObligation (dats (F := F) σ m ρ 0 c) (defs₀ (F := F)) 𝒱₀ () Set.univ := fun t => by
  rw [fin_N t]
  rw [bigSep_W, bigSep_W]
  simp only [owns_whole_eq]
  show bodyPre' σ m ρ c ⊢ wp frame (wpE (defs₀ (F := F)) 𝒱₀ c none) Set.univ
    (cc0_body tabM (Memref.isWhole_whole _) xM (Memref.isWhole_whole _) oM (Memref.isWhole_whole _)
            qM (Memref.isWhole_whole _) rM (Memref.isWhole_whole _) sM (Memref.isWhole_whole _) tM (Memref.isWhole_whole _)
            cc0_scratch4 cc0_scratch5) (fun _ => bodyPost σ m ρ c)
  unfold bodyPre' Φ₀ start
  iintro ⟨⟨⟨⟨%K, Hg⟩, Hc, Hl⟩, Hb⟩, Ho, Ht, Hx, Hout⟩
  iapply (sound_body σ m ρ K hT c fun _ => bodyPost σ m ρ c)
  unfold bodyPre
  isplitr []
  · isplitl [Hg Hc Hl Hb]
    · isplitl [Hg]; · iexact Hg
      isplitl [Hc]; · iexact Hc
      isplitl [Hl] <;> iassumption
    isplitl [Ho]; · iexact Ho
    isplitl [Ht]; · iexact Ht
    isplitl [Hx] <;> iassumption
  · iintro H; iexact H

end Cert.Shuffle

end
-- ==== Proof.Launch.lean ====
/-
# The permutation shuffle: the launch and the run

The semaphores' rounds are set up for all devices at once, each duty's token is dealt to the device that pays it — along
the permutation — and the launch runs the body on every device. The end of the run is stated for any permutation the
table lists, over any float values.
-/
module

public import proofs.«01_k».proof.Proof.Body
public import Idealize.ShloMosaic.Lib.Pipeline.CollectiveSegs

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats σ m ρ 0 c).share w = fullShare := by unfold Dat.share; split <;> rfl

theorem kcell_injective : Function.Injective (kcell : Dev nD × Fin 7 → GSem nD τ sig) := fun a b h =>
  Prod.ext (congrArg (fun g : GSem nD τ sig => g.1.1) h) (csem_injective (congrArg Prod.snd h))

/-- All semaphores of the protocol, and one token for the one duty of each. -/
def allCells : Finset (GSem nD τ sig) := Finset.univ.map ⟨kcell, kcell_injective⟩
abbrev tokOf (ck : Dev nD × Fin 7) : GSem nD τ sig × ℕ × Unit := (kcell ck, 0, ())
theorem tokOf_injective : Function.Injective (tokOf : Dev nD × Fin 7 → GSem nD τ sig × ℕ × Unit) := fun a b h =>
  kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The tokens of the duties of device `c`'s own semaphores. -/
def toks (c : Dev nD) : sProp 𝕄 := bigSep Finset.univ fun k : Fin 7 => dutyTok ER (cell c k) 0 ()

/-- What the launch deals device `c`. -/
def G (c : Dev nD) : sProp 𝕄 :=
  iprop((bigSep Finset.univ fun k : Fin 7 => roundState ER (rd σ m ρ) (kcell (c, k)) 0)
    ∗ (bigSep Finset.univ fun k : Fin 7 => iprop(atPos ER (kcell (c, k)) 0 ∅ 0 ∗ reached ER (kcell (c, k)) 0)) ∗ toks c)

/-- What the set-up makes of it. -/
def G' (c : Dev nD) : sProp 𝕄 := iprop(∃ K, ghost σ m ρ K c)

theorem fund : BI.own (ER (initOf allCells allToks)) ⊢ (|==> bigSep Finset.univ (G σ m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd σ m ρ) allCells allToks) $$ HX with ⟨Hst, Hr, Hat, Htok⟩
  imodintro
  ihave Hst' := (Entails.of_eq (hX fun g => roundState ER (rd σ m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (cell c 0) 0 := by
  unfold unscopedSems0; rw [bigSep_eq_bigSepL_of_eq [SemLoc.reg barS] (by decide) (by decide)]; rfl

omit [FloatOps F] in
/-- The launch's own semaphores and the runtime's barrier are the seven of the protocol. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H
omit [FloatOps F] in
theorem sems0_back (c : Dev nD) :
    (bigSep Finset.univ fun k : Fin 7 => semVal (kcell (c, k)) 0 : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, bigSep_fin7]

theorem core_alloc (c : Dev nD) :
    iprop(Pipeline.ownSems0 (Ix := Unit) (Name := ℕ) (U := UU) (Lvl := ℕ) (Val := Elt F) (τ := τ) osem c ∗ unscopedSems0 c ∗ G σ m ρ c)
      ⊢ |={Set.univ}=> iprop((bigSep Finset.univ fun k => iprop(∃ κ : ℕ, cellInv ER (rd σ m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd σ m ρ) (kcell (c, k)) 0)
      ⊢ (|={Set.univ}=> bigSep Finset.univ fun k => iprop(∃ κ : ℕ, cellInv ER (rd σ m ρ) κ (kcell (c, k))) : sProp 𝕄) from by
        rw [← bigSep_sep']
        exact (bigSep_mono fun k _ => (Rounds.body_intro ER (rd σ m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt along the permutation: a barrier's to the device it names as destination, a receive semaphore's to
    its sender, a send semaphore's to its owner. -/
theorem toks_around : (bigSep Finset.univ fun c : Dev nD => (toks c : sProp 𝕄)) ⊢ bigSep Finset.univ fun c : Dev nD => payToks σ c := by
  have h : (fun c : Dev nD => (toks c : sProp 𝕄)) = fun c => iprop(dutyTok ER (cell c 0) 0 () ∗ dutyTok ER (cell c 1) 0 () ∗ dutyTok ER (cell c 2) 0 ()
      ∗ dutyTok ER (cell c 3) 0 () ∗ dutyTok ER (cell c 4) 0 () ∗ dutyTok ER (cell c 5) 0 () ∗ dutyTok ER (cell c 6) 0 ()) := by
    funext c; unfold toks; rw [bigSep_fin7]
  rw [h]
  unfold payToks
  simp only [bigSep_sep']
  rw [bigSep_univ_equiv σ.symm (fun c : Dev nD => (dutyTok ER (cell c 0) 0 () : sProp 𝕄)),
    bigSep_univ_equiv σ (fun c : Dev nD => (dutyTok ER (cell c 4) 0 () : sProp 𝕄)),
    bigSep_univ_equiv σ (fun c : Dev nD => (dutyTok ER (cell c 5) 0 () : sProp 𝕄)),
    bigSep_univ_equiv σ (fun c : Dev nD => (dutyTok ER (cell c 6) 0 () : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) : iprop(records σ m ρ K ∗ poss c ∗ payToks σ c) ⊢ G' σ m ρ c := by
  unfold G' ghost
  iintro H; iexists K; iexact H

theorem regroup :
    (bigSep Finset.univ fun c : Dev nD => iprop((bigSep Finset.univ fun k => iprop(∃ κ : ℕ, cellInv ER (rd σ m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' σ m ρ) := by
  rw [bigSep_sep', bigSep_sep', ← bigSep_univ_prod (fun ck : Dev nD × Fin 7 => iprop(∃ κ : ℕ, cellInv ER (rd σ m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd σ m ρ) κ (kcell ck) : sProp 𝕄))) $$ HI
  icases HK with ⟨%K, #HI⟩
  ihave Htk := (toks_around (F := F) σ) $$ Htok
  iapply (bigSep_with_persistent (R := records σ m ρ K) fun c _ => ghost_intro σ m ρ K c)
  isplitr
  · unfold records; isplitl; · iexact HI
    iexact HR
  · rw [bigSep_sep']
    isplitl [Hat]
    · iexact Hat
    iexact Htk

/-- The set-up of all devices' semaphores at once. -/
theorem glob : (bigSep Finset.univ fun c => iprop(Pipeline.ownSems0 (Ix := Unit) (Name := ℕ) (U := UU) (Lvl := ℕ) (Val := Elt F) (τ := τ) osem c ∗ unscopedSems0 c ∗ G σ m ρ c) : sProp 𝕄)
    ⊢ |={Set.univ}=> bigSep Finset.univ (G' σ m ρ) :=
  ((bigSep_mono fun c _ => core_alloc σ m ρ c).trans (bigSep_fupd _ _)).trans (BI.fupd_mono (regroup σ m ρ))

/-! ### The credit each device is launched with -/

theorem cell_eq_iff {a b : Dev nD} {j k : Fin 7} : cell a j = cell b k ↔ a = b ∧ j = k :=
  ⟨fun h => by have := kcell_injective h; exact ⟨congrArg Prod.fst this, congrArg Prod.snd this⟩, fun ⟨h, h'⟩ => by rw [h, h']⟩

theorem tally_at (e : Equiv.Perm (Dev nD)) (d c : Dev nD) (j k : Fin 7) (n : ℕ) :
    (tallyAt (cell (e d) j) () n : CellTallies nD τ sig Unit) (cell c k) () = if j = k then (if d = e.symm c then n else 0) else 0 := by
  rw [tallyAt_apply]
  by_cases hj : j = k
  · rw [if_pos hj]; subst hj
    by_cases h : d = e.symm c
    · subst h; rw [if_pos rfl, if_pos ⟨by rw [Equiv.apply_symm_apply], rfl⟩]
    · rw [if_neg h, if_neg fun h' => h ((Equiv.eq_symm_apply e).mpr (cell_eq_iff.mp h'.1).1.symm)]
  · rw [if_neg hj, if_neg fun h' => hj (cell_eq_iff.mp h'.1).2.symm]

theorem owed_at (d c : Dev nD) (k : Fin 7) : O₀ σ d (cell c k) ()
    = (((if (5 : Fin 7) = k then (if d = σ.symm c then Nq else 0) else 0) + (if (4 : Fin 7) = k then (if d = σ.symm c then Nq else 0) else 0))
      + (if (6 : Fin 7) = k then (if d = σ.symm c then Ns else 0) else 0)) + (if (0 : Fin 7) = k then (if d = σ c then 1 else 0) else 0) := by
  unfold O₀ O₁ O₂ O₃
  simp only [Pi.add_apply, Finsupp.add_apply, tally_at, Equiv.symm_symm]

theorem launch_at (c : Dev nD) (k : Fin 7) (n : ℕ) (e : Dev nD) (h : ∀ d, O₀ σ d (cell c k) () = if d = e then n else 0) :
    tallyOn (cell c k) (launchCredit (Pipeline.owing (O₀ σ)) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

omit [FloatOps F] in
theorem creds (c : Dev nD) : (Pipeline.launchCred (O₀ σ) c : sProp 𝕄) ⊢ credits c := by
  unfold Pipeline.launchCred
  have hs (Φ : SemLoc sig → sProp 𝕄) : bigSep (Finset.univ.map ⟨csem, csem_injective⟩) Φ
      = iprop(Φ (csem 0) ∗ Φ (csem 1) ∗ Φ (csem 2) ∗ Φ (csem 3) ∗ Φ (csem 4) ∗ Φ (csem 5) ∗ Φ (csem 6)) := by
    rw [bigSep_map, bigSep_fin7]; rfl
  refine (bigSep_subset (Finset.subset_univ (Finset.univ.map ⟨csem, csem_injective⟩))).trans ((Entails.of_eq (hs _)).trans ?_)
  have h0 := launch_at σ c 0 1 (σ c) (fun d => by rw [owed_at]; simp)
  have h4 := launch_at σ c 4 Nq (σ.symm c) (fun d => by rw [owed_at]; simp)
  have h5 := launch_at σ c 5 Nq (σ.symm c) (fun d => by rw [owed_at]; simp)
  have h6 := launch_at σ c 6 Ns (σ.symm c) (fun d => by rw [owed_at]; simp)
  iintro ⟨H0, -, -, -, H4, H5, H6⟩
  unfold credits
  rw [← h0, ← h4, ← h5, ← h6]
  isplitl [H0]; · iexact H0
  isplitl [H4]; · iexact H4
  isplitl [H5] <;> iassumption

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m ρ c)
      ⊢ |={Set.univ}=> iprop(start σ m ρ c ∗ emp) := by
  iintro ⟨-, Hlev, Hcr, -, HG⟩
  ihave Hc := (creds (F := F) σ c) $$ Hcr
  imodintro
  unfold start G'
  isplitl
  · isplitl [HG]; · iexact HG
    isplitl [Hc] <;> iassumption
  · iempintro

theorem phi0_intro (c : Dev nD) :
    iprop(start σ m ρ c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = Φ₀ σ m ρ c from rfl, scopedRest0_eq]
  unfold Φ₀ bufs
  iintro ⟨Hs, -, Hr⟩
  isplitl [Hs] <;> iassumption

theorem phi1_exit (c : Dev nD) :
    (dats σ m ρ 0 c).Φ (Fin.last cfg0.N) ⊢ iprop(unscopedSems0 c ∗ Pipeline.ownSems0 osem c ∗ Pipeline.scopedRest cfg0.spec c) := by
  rw [show (dats σ m ρ 0 c).Φ (Fin.last cfg0.N) = Φ₁ c from rfl, scopedRest0_eq]
  unfold Φ₁ bufs
  iintro ⟨Hb, Hz⟩
  ihave Hz' := (sems0_back (F := F) c) $$ Hz
  icases Hz' with ⟨Hu, Ho⟩
  isplitl [Hu]; · iexact Hu
  isplitl [Ho] <;> iassumption

theorem waits (c : Dev nD) : (levAts L lv : sProp 𝕄) ⊢ Pipeline.cellsWaits cfgs (dats σ m ρ) () 0 c :=
  Pipeline.cellsWaits_intro cfgs (dats σ m ρ) () 0 c fun w s t =>
    mayWait_stage σ c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats σ m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA σ m ρ c w

set_option maxRecDepth 8000 in
/-- From any memory with zero counters whose tables list `σ`, for any float values: every weakly fair run of the eight
    devices ends, with each device's arrays at the computed contents and every semaphore at zero. -/
theorem run_main (hT : ∀ c, Lists σ (tstg m ρ c)) :
    θ_run defs (onTc (τ := τ) (main (F := F))) (s₀ m ρ) (fun r => QC σ m ρ r ∧ r.2.sem = fun _ => 0) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ 𝒱₀ m ρ main
    (hmain := fun _ => rfl)
    (hbody := body_obligation σ m ρ hT) (hne := block_pos0) (harr := arr_whole0) (hstage := stage_whole0) (hshare := share_eq σ m ρ)
    (hdistinct := winFacts0.arr_inj)
    (O₀ := O₀ σ) (howed₀ := fun _ => rfl) (howedN := fun _ => rfl)
    (L := L) (lv := lv) (hL := L_of_ne) (hwaits := waits σ m ρ)
    (G := G σ m ρ) (G' := G' σ m ρ) (u₀ := u₀)
    (hu₀ := by
      unfold u₀
      iintro Hu
      ihave H := (ownU_pair _ _) $$ Hu
      icases H with ⟨HP, HX⟩
      imod (fund σ m ρ) $$ HX with HG
      imodintro
      isplitl [HP] <;> iassumption)
    (hglob := glob σ m ρ)
    (hA := fun _ _ => rfl) (hpf := fun _ k => k.elim0)
    (X := start σ m ρ) (Y := fun c => unscopedSems0 c) (Z := fun _ => iprop(emp))
    (hX := start_intro σ m ρ) (hin := phi0_intro σ m ρ) (hout := phi1_exit σ m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The table and the block are left as they were. -/
theorem finalA_tab (c : Dev nD) : finalA σ m ρ c (0 : Fin 3) = (s₀ m ρ).mem (win0_0.arr.view.loc (c : Thread nD τ)) :=
  (dats (F := F) σ m ρ 0 c).arrAt_in (0 : Fin 3) rfl _
theorem finalA_x (c : Dev nD) : finalA σ m ρ c (1 : Fin 3) = (s₀ m ρ).mem (win0_1.arr.view.loc (c : Thread nD τ)) :=
  (dats (F := F) σ m ρ 0 c).arrAt_in (1 : Fin 3) rfl _

end Cert.Shuffle

end
-- ==== Proof.Final.lean ====
/-
# What the arrays hold at the end of a run

The table and the block are staged whole, so the body works on the arguments themselves; the result's one block is the whole
result array. So a run ends with the arguments unchanged and, on device `c`, what the block of device `σ⁻¹ c` makes.
-/
module

public import proofs.«01_k».proof.Proof.Launch
public import Idealize.ShloMosaic.Lib.Pipeline.Value

@[expose] public section

noncomputable section

namespace Cert.Shuffle

open Cert.KernelIdeal Cert.KernelIdeal.Gen
open Idealize.ShloMosaic Idealize.ShloMosaic.TcCoe

variable {F : FTy → Type} [FloatOps F]
variable (σ : Equiv.Perm (Dev nD))
variable (m : (ℓ : Loc nD τ sig) → Buf (Elt F) ℓ) (ρ : Dev nD → PrngReg)

theorem off_tab : ∀ a : Fin 1, win0_0.index (0 : Fin 1) a * win0_0.size a = 0 := by decide +kernel
theorem off_x : ∀ a : Fin 3, win0_1.index (0 : Fin 1) a * win0_1.size a = 0 := by decide +kernel
theorem off_out : ∀ a : Fin 3, win0_2.index (0 : Fin 1) a * win0_2.size a = 0 := by decide +kernel

/-- The staged table is the table. -/
theorem tstg_eq (c : Dev nD) : tstg m ρ c = m ((c.tc : Thread nD τ).loc main_arg1) := by
  unfold tstg
  funext i
  refine congrArg (m ((c.tc : Thread nD τ).loc main_arg1)) (funext fun a => Fin.ext ?_)
  show win0_0.index (0 : Fin 1) a * win0_0.size a + 1 * (i a).val = (i a).val
  rw [off_tab, Nat.one_mul, Nat.zero_add]

/-- The staged block is the block. -/
theorem xstg_eq (c : Dev nD) : xstg m ρ c = m ((c.tc : Thread nD τ).loc main_arg0) := by
  unfold xstg
  funext i
  refine congrArg (m ((c.tc : Thread nD τ).loc main_arg0)) (funext fun a => Fin.ext ?_)
  show win0_1.index (0 : Fin 1) a * win0_1.size a + 1 * (i a).val = (i a).val
  rw [off_x, Nat.one_mul, Nat.zero_add]

theorem read_out (c : Dev nD) (f : S1x256x256.Idx → Elt F .bf16) : (win0_2.blk (0 : Fin 1)).view.read (Elt F) f = f := by
  funext i
  refine congrArg f (funext fun a => Fin.ext ?_)
  show win0_2.index (0 : Fin 1) a * win0_2.size a + 1 * (i a).val = (i a).val
  rw [off_out, Nat.one_mul, Nat.zero_add]

theorem flushed_out (c : Dev nD) (t : Fin cfg0.N) :
    (dats σ m ρ 0 c).flushed 2 t = ((cfg0.win 2).blk t).view.read (Elt F) (outAt σ m ρ c) := by
  obtain rfl := fin_N t
  unfold Pipeline.Dat.flushed
  refine Eq.trans ?_ (read_out c _).symm
  rfl

theorem cover_out (i : S1x256x256.Idx) : ∃ t : Fin cfg0.N, (cfg0.win 2).flush t = true ∧ i ∈ ((cfg0.win 2).blk t).view.set := by
  refine ⟨t₀, flush0_2 _, ?_⟩
  show i ∈ ((View.whole main_v1).slice (win0_2.rect t₀)).set
  rw [View.set_slice_whole, Rect.mem_set_unit]
  have hx : ∀ a : Fin 3, win0_2.xsize (grid0.coords (0 : Fin 1)) a = S1x256x256.size a := by decide +kernel
  intro a
  show win0_2.index (0 : Fin 1) a * win0_2.size a ≤ (i a : Nat) ∧ (i a : Nat) < win0_2.index (0 : Fin 1) a * win0_2.size a + win0_2.xsize (grid0.coords (0 : Fin 1)) a
  rw [off_out, hx]
  exact ⟨Nat.zero_le _, by rw [Nat.zero_add]; exact (i a).isLt⟩

/-- The result array ends at what the body leaves in its staging buffer. -/
theorem finalA_out (c : Dev nD) : finalA σ m ρ c (2 : Fin 3) = outAt σ m ρ c :=
  (dats σ m ρ 0 c).arrAt_eq_of_cover 2 (outAt σ m ρ c) (fun t _ => flushed_out σ m ρ c t) cover_out

/-- From any memory with zero counters whose every table lists `σ`: every weakly fair run ends, the arguments unchanged, every
    semaphore at zero, and device `c`'s result what the block of device `σ⁻¹ c` makes. -/
theorem run (hT : ∀ c : Dev nD, Lists σ (m ((c.tc : Thread nD τ).loc main_arg1))) :
    θ_run defs (onTc (τ := τ) (main (F := F))) ⟨m, fun _ => 0, ρ⟩ (fun r => (∀ c : Dev nD,
      r.2.mem ((c.tc : Thread nD τ).loc main_v1) = outOf (m (((σ.symm c).tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
      ⟨((h.1 c (2 : Fin 3)).trans (finalA_out σ m ρ c)).trans (congrArg outOf (xstg_eq m ρ (σ.symm c))),
        (h.1 c (1 : Fin 3)).trans (finalA_x σ m ρ c), (h.1 c (0 : Fin 3)).trans (finalA_tab σ m ρ c)⟩, h.2⟩)
    (run_main σ m ρ fun c => by rw [tstg_eq]; exact hT c)

end Cert.Shuffle

end
-- ==== Proof.Quant.lean ====
/-
# The quantiser over the extended reals

A block is scaled so that its largest magnitude becomes 127 and rounded to nearest even: the rounded values are integers
between −127 and 127, so storing them as bytes and reading the bytes back loses nothing. An infinite block scales to
zero on both sides, so no finiteness is asked.
-/
module

public import Idealize.ShloMosaic.PureOps
public import Idealize.ShloMosaic.PureOps.Ideal

@[expose] public section

noncomputable section

namespace Cert.Shuffle

open Idealize.ShloMosaic

/-- The level 127 as the programs write it. -/
abbrev c127 : EReal := Ideal.ofBits .f32 0x42FE0000#32
/-- The least magnitude a block is scaled by (the literal `1e-30`), as the programs write it. -/
abbrev tiny : EReal := Ideal.ofBits .f32 0x0DA24260#32

theorem c127_eq : c127 = ((127 : ℝ) : EReal) := by
  simp [c127, Ideal.ofBits, Ideal.ieee]; norm_num
  rw [← EReal.coe_mul]; norm_num
theorem tiny_pos : 0 < tiny := by
  have : tiny = ((10633824 * (1 / 10633823966279326983230456482242756608) : ℝ) : EReal) := by
    simp [tiny, Ideal.ofBits, Ideal.ieee]; norm_num
  rw [this]; exact_mod_cast (by positivity)

/-- The rounded, scaled value of `v` in a block of largest magnitude `A`. -/
def level (A v : EReal) : EReal := Ideal.liftRound Ideal.roundHalfEven (v * Ideal.div c127 A)
/-- The value read back. -/
def requant (A v : EReal) : EReal := level A v * Ideal.div A c127

/-- Rounding to nearest even stays within integer bounds. -/
theorem round_bounds (n : ℤ) (r : ℝ) (h₁ : -(n : ℝ) ≤ r) (h₂ : r ≤ n) : -n ≤ Ideal.roundHalfEven r ∧ Ideal.roundHalfEven r ≤ n := by
  have lo : -n ≤ ⌊r⌋ := Int.le_floor.mpr (by push_cast; exact h₁)
  have hi : ⌊r⌋ ≤ n := by exact_mod_cast (Int.floor_le r).trans h₂
  have up : (1 / 2 ≤ r - ⌊r⌋) → ⌊r⌋ + 1 ≤ n := fun h => by
    have : (⌊r⌋ : ℝ) < n := by linarith
    have : ⌊r⌋ < n := by exact_mod_cast this
    omega
  unfold Ideal.roundHalfEven
  dsimp only
  split_ifs with a b d
  · exact ⟨lo, hi⟩
  · exact ⟨by omega, up b.le⟩
  · exact ⟨lo, hi⟩
  · exact ⟨by omega, up (not_lt.mp a)⟩

/-- The scaled value is a real number between −127 and 127. -/
theorem scaled (A v : EReal) (hA : 0 < A) (hv : max v (-v) ≤ A) :
    ∃ r : ℝ, v * Ideal.div c127 A = (r : EReal) ∧ -127 ≤ r ∧ r ≤ 127 := by
  unfold Ideal.div
  rw [if_neg hA.ne', c127_eq]
  induction A with
  | bot => exact absurd hA (by simp)
  | top => exact ⟨0, by simp, by norm_num, by norm_num⟩
  | coe a =>
    have ha : 0 < a := by exact_mod_cast hA
    induction v with
    | bot => simp at hv
    | top => simp at hv
    | coe x =>
      have h₁ : x ≤ a := by exact_mod_cast (le_max_left _ _).trans hv
      have h₂ : -x ≤ a := by exact_mod_cast (le_max_right (x : EReal) _).trans hv
      refine ⟨x * (127 * a⁻¹), by rw [← EReal.coe_inv]; norm_cast, ?_, ?_⟩
      · rw [show x * (127 * a⁻¹) = 127 * (x / a) by ring]
        have : -1 ≤ x / a := by rw [le_div_iff₀ ha]; linarith
        linarith
      · rw [show x * (127 * a⁻¹) = 127 * (x / a) by ring]
        have : x / a ≤ 1 := by rw [div_le_one ha]; exact h₁
        linarith

/-- Storing the rounded value as a byte and reading the byte back gives the rounded value. -/
theorem byte_round_trip (A v : EReal) (hA : 0 < A) (hv : max v (-v) ≤ A) :
    (((Ideal.fptosi 8 (level A v)).toInt : ℝ) : EReal) = level A v := by
  obtain ⟨r, hr, h₁, h₂⟩ := scaled A v hA hv
  unfold level
  rw [hr]
  show ((((Ideal.fptosi 8 ((Ideal.roundHalfEven r : ℝ) : EReal)).toInt : ℤ) : ℝ) : EReal) = ((Ideal.roundHalfEven r : ℝ) : EReal)
  obtain ⟨b₁, b₂⟩ := round_bounds 127 r (by push_cast; exact h₁) (by push_cast; exact h₂)
  generalize Ideal.roundHalfEven r = k at b₁ b₂
  have hk : Ideal.toIntClamped (-(2 ^ (8 - 1) : Nat)) ((2 ^ (8 - 1) : Nat) - 1) ((k : ℝ) : EReal) = k := by
    rw [Ideal.toIntClamped_coe]
    simp only [Int.floor_intCast, Int.ceil_intCast, ite_self]
    push_cast
    omega
  unfold Ideal.fptosi
  rw [hk, BitVec.toInt_ofInt]
  congr 2
  rw [Int.bmod_eq_of_le] <;> omega

end Cert.Shuffle

end
-- ==== Proof.Value.lean ====
/-
# What the kernel writes, over the extended reals

Each element of the result a device makes from the block it receives is the sender's element quantised and read back, at
the sender's own largest magnitude.
-/
module

public import proofs.«01_k».proof.Proof.Protocol
public import proofs.«01_k».proof.Proof.Quant
public import Idealize.ShloMosaic.PureOps.Reduce
public import Idealize.ShloMosaic.PureOps.Ideal.Laws
public import Idealize.ShloMosaic.Lib.Pipeline.Value

@[expose] public section

noncomputable section

namespace Cert.Shuffle

open Cert.KernelIdeal Cert.KernelIdeal.Gen
open Idealize.ShloMosaic Idealize.ShloMosaic.TcCoe

/-- The largest magnitude of a block, the literal `1e-30` at least. -/
def amax (x : S1x256x256.Idx → EReal) : EReal := max (Finset.univ.sup fun i => max (x i) (-x i)) tiny

theorem amax_pos (x : S1x256x256.Idx → EReal) : 0 < amax x := tiny_pos.trans_le (le_max_right _ _)
theorem le_amax (x : S1x256x256.Idx → EReal) (i : S1x256x256.Idx) : max (x i) (-x i) ≤ amax x :=
  (Finset.le_sup (f := fun i => max (x i) (-x i)) (Finset.mem_univ i)).trans (le_max_left _ _)

theorem negInf : Ideal.ofBits .f32 0xFF800000#32 = ⊥ := by simp [Ideal.ofBits, Ideal.ieee]

theorem fold_max {ι : Type} (s : Finset ι) (f : ι → EReal) :
    s.fold (FloatOps.maximumf (F := Ideal) (φ := .f32)) (FloatOps.ofBits (F := Ideal) .f32 0xFF800000#32) f = s.sup f := by
  rw [Ideal.ofBits_def, negInf]; rfl

/-- The kernel's scale is its block's largest magnitude. -/
theorem pay2_eq (x : Vec Ideal S1x256x256 .bf16) : k0_pay2 x = amax x := by
  unfold k0_pay2 amax
  dsimp only
  rw [Ideal.scalar_maximumf_def]
  refine congrArg₂ max ?_ rfl
  unfold extractAt
  show shapeCast S1x1x1x1 _ _ _ = _
  unfold shapeCast
  refine (multiReduction_maximumf_eq_fold _ _ _ _ _ _).trans ?_
  rw [fold_max]
  have hs : ∀ a b : S1.Idx, a = b := fun a b => by
    funext d; match d with | ⟨0, _⟩ => exact Subsingleton.elim (α := Fin 1) (a 0) (b 0)
  refine le_antisymm (Finset.sup_le fun i _ => ?_) (Finset.sup_le fun i _ => ?_)
  · exact Finset.le_sup (f := fun i => max (x i) (-x i)) (Finset.mem_univ _)
  · refine le_trans (le_of_eq ?_) (Finset.le_sup (b := (Shape.reshapeEquiv shapeCasts_S1x256x256_S1x1x256x256).symm i) (Finset.mem_filter.mpr ⟨Finset.mem_univ _, hs _ _⟩))
    show _ = max (k0_pay1 x (Shape.reshapeEquiv _ _)) (-k0_pay1 x (Shape.reshapeEquiv _ _))
    rw [Equiv.apply_symm_apply]
    unfold k0_pay1
    rw [shapeCast_self]

theorem scl1_eq (x : Vec Ideal S1x256x256 .bf16) (j : S1x1.Idx) : scl1 x j = Ideal.div (amax x) c127 := by
  have h : scl x = fun _ => Ideal.div (amax x) c127 := by
    unfold scl k0_pay4
    dsimp only
    rw [shapeCast_self, pay2_eq]; rfl
  unfold scl1
  rw [h]; rfl

theorem qLo_eq (x : Vec Ideal S1x256x256 .bf16) (y : S1x128x256.Idx) : qLo x y = Ideal.fptosi 8 (level (amax x) (x (h0R.emb y))) := by
  unfold qLo k0_pay5 k0_pay3 k0_pay1
  dsimp only
  rw [shapeCast_self, shapeCast_self, pay2_eq]
  refine congrArg (fun i => Ideal.fptosi 8 (level (amax x) (x i))) (funext fun a => Fin.ext ?_)
  show _ = (![0, 0, 0] : Fin 3 → ℕ) a + 1 * (y a).val
  rw [Nat.one_mul]; rfl
theorem qHi_eq (x : Vec Ideal S1x256x256 .bf16) (y : S1x128x256.Idx) : qHi x y = Ideal.fptosi 8 (level (amax x) (x (h1R.emb y))) := by
  unfold qHi k0_pay6 k0_pay3 k0_pay1
  dsimp only
  rw [shapeCast_self, shapeCast_self, pay2_eq]
  refine congrArg (fun i => Ideal.fptosi 8 (level (amax x) (x i))) (funext fun a => Fin.ext ?_)
  show _ = (![0, 128, 0] : Fin 3 → ℕ) a + 1 * (y a).val
  rw [Nat.one_mul]; rfl

theorem oLo_eq (x : Vec Ideal S1x256x256 .bf16) (y : S1x128x256.Idx) : oLo x y = requant (amax x) (x (h0R.emb y)) := by
  show (((qLo x y).toInt : ℝ) : EReal) * scl1 x (fun a => ⟨![0, 0] a, inpos_S1x1_p0_0 a⟩) = _
  rw [scl1_eq, qLo_eq, byte_round_trip _ _ (amax_pos x) (le_amax x _)]; rfl
theorem oHi_eq (x : Vec Ideal S1x256x256 .bf16) (y : S1x128x256.Idx) : oHi x y = requant (amax x) (x (h1R.emb y)) := by
  show (((qHi x y).toInt : ℝ) : EReal) * scl1 x (fun a => ⟨![0, 0] a, inpos_S1x1_p0_0 a⟩) = _
  rw [scl1_eq, qHi_eq, byte_round_trip _ _ (amax_pos x) (le_amax x _)]; rfl

/-- The result made from a block: each of its elements, quantised and read back. -/
theorem outOf_eq (x : Vec Ideal S1x256x256 .bf16) : outOf (F := Ideal) x = fun i => requant (amax x) (x i) := by
  have s0 : (oM.access h0R : View sig .tc _ _ _).setOn Finset.univ = h0R.set := View.set_slice_whole _ _
  have s1 : (oM.access h1R : View sig .tc _ _ _).setOn Finset.univ = h1R.set := View.set_slice_whole _ _
  unfold outOf
  funext i
  by_cases h1 : i ∈ h1R.set
  · rw [← s1] at h1
    obtain ⟨y, -, rfl⟩ := Finset.mem_map.mp h1
    rw [View.write_emb_of_mem _ _ (Finset.mem_univ y)]
    exact oHi_eq x y
  · have h0 : i ∈ h0R.set := by
      have : i ∈ h0R.set ∪ h1R.set := by rw [h_union]; exact Finset.mem_univ i
      exact (Finset.mem_union.mp this).resolve_right h1
    rw [View.write_of_not_mem (v := (oM.access h1R : View sig .tc _ _ _)) _ _ _ (by rw [s1]; exact h1)]
    rw [← s0] at h0
    obtain ⟨y, -, rfl⟩ := Finset.mem_map.mp h0
    rw [View.write_emb_of_mem _ _ (Finset.mem_univ y)]
    exact oLo_eq x y

end Cert.Shuffle

end
-- ==== Proof.Reference.lean ====
/-
# What the reference computes, over the extended reals

The reference quantises every block of the whole array at the block's own largest magnitude and then reads the blocks in the
order that sorts the table. For a table that lists a permutation that order is the permutation's inverse, so block `d` of the
result is block `σ⁻¹ d` of the argument, quantised and read back.
-/
module

public import proofs.«01_k».proof.Proof.Value
public import proofs.«01_k».proof.Proof.Table
public import proofs.«01_k».proof.Proof.Gen.ReferenceIdeal.Run
public import Idealize.ShloMosaic.Lib.SortFacts
public import Idealize.ShloMosaic.Lib.Layout

@[expose] public section

noncomputable section

namespace Cert.Shuffle

open Cert.ReferenceIdeal Cert.ReferenceIdeal.Gen
open Idealize.ShloMosaic Idealize.ShloMosaic.TcCoe

/-- Block `d` of the whole array, as one device holds it. -/
def blockOf (X : S8x256x256.Idx → EReal) (d : Fin 8) : Cert.KernelIdeal.S1x256x256.Idx → EReal :=
  Layout.block Cert.KernelIdeal.S1x256x256 S8x256x256 0 8 d X

/-- Where element `i` of block `d` lies in the whole array. -/
def whole (d : Fin 8) (i : Cert.KernelIdeal.S1x256x256.Idx) : S8x256x256.Idx :=
  (by decide : Layout.Tiles Cert.KernelIdeal.S1x256x256 S8x256x256 0 8).idx d i

theorem whole_zero (d : Fin 8) (i : Cert.KernelIdeal.S1x256x256.Idx) : (whole d i 0).val = d.val := by
  refine (Layout.Tiles.idx_val _ d i 0).trans ((if_pos rfl).trans ?_)
  have h : (i 0).val < 1 := (i 0).isLt
  show d.val * 1 + (i 0).val = d.val
  omega
theorem whole_one (d : Fin 8) (i : Cert.KernelIdeal.S1x256x256.Idx) : (whole d i 1).val = (i 1).val :=
  (Layout.Tiles.idx_val _ d i 1).trans (if_neg (by decide))
theorem whole_two (d : Fin 8) (i : Cert.KernelIdeal.S1x256x256.Idx) : (whole d i 2).val = (i 2).val :=
  (Layout.Tiles.idx_val _ d i 2).trans (if_neg (by decide))

/-- Two elements of the whole array with the same coordinates are one. -/
theorem idx_ext {i j : S8x256x256.Idx} (h0 : (i 0).val = (j 0).val) (h1 : (i 1).val = (j 1).val) (h2 : (i 2).val = (j 2).val) :
    i = j := by
  funext a
  match a with
  | ⟨0, _⟩ => exact Fin.ext h0
  | ⟨1, _⟩ => exact Fin.ext h1
  | ⟨2, _⟩ => exact Fin.ext h2

/-- The element of a block at an element's last two coordinates. -/
def inBlock (i : S8x256x256.Idx) : Cert.KernelIdeal.S1x256x256.Idx := fun a =>
  match a with
  | ⟨0, _⟩ => ⟨0, Nat.one_pos⟩
  | ⟨1, _⟩ => ⟨(i 1).val, (i 1).isLt⟩
  | ⟨2, _⟩ => ⟨(i 2).val, (i 2).isLt⟩

theorem whole_inBlock (d : Fin 8) (i : S8x256x256.Idx) (h : (i 0).val = d.val) : whole d (inBlock i) = i :=
  idx_ext ((whole_zero _ _).trans h.symm) (whole_one _ _) (whole_two _ _)

/-! ## The order that sorts the table -/

theorem slt_words : ∀ a b : Fin 8, (IntOp.cmpi .slt (BitVec.ofNat 32 a.val) (BitVec.ofNat 32 b.val) == 1#1) = decide (a < b) := by decide

/-- Sorting a permutation's table with the positions carried along lists the inverse permutation. -/
theorem order_eq (σ : Equiv.Perm (Fin 8)) (ts : S8.Idx → BitVec 32) (hT : Lists σ ts) (j : S8.Idx) :
    (Host.sort2 S8 0 comparator_i32_i32_d0 ts (iotaInDim S8 32 0)).2 j = BitVec.ofNat 32 (σ.symm (j 0)).val := by
  have hs : (sortedFrom (fun k k' : Fin 8 => comparator_i32_i32_d0 (ts (Shape.Idx.ofFin k), iotaInDim S8 32 0 (Shape.Idx.ofFin k))
      (ts (Shape.Idx.ofFin k'), iotaInDim S8 32 0 (Shape.Idx.ofFin k')) == 1#1)) = σ.symm := by
    refine (sortedFrom_congr _ (fun k k' => decide (σ.symm.symm k < σ.symm.symm k')) fun k k' _ => ?_).trans ?_
    · show (IntOp.cmpi .slt (ts (i8 k)) (ts (i8 k')) == 1#1) = _
      rw [hT, hT, slt_words]; rfl
    · funext k
      unfold sortedFrom
      rw [List.get_of_eq (sortPositions_of_perm σ.symm)]
      simp
      fin_cases k <;> rfl
  unfold Host.sort2
  rw [dif_pos (show 0 < S8.rank by decide)]
  dsimp only
  show iotaInDim S8 32 0 (j.along (0 : Fin 1) (sortedFrom (fun k k' => comparator_i32_i32_d0 (ts (j.along (0 : Fin 1) k), iotaInDim S8 32 0 (j.along (0 : Fin 1) k))
    (ts (j.along (0 : Fin 1) k'), iotaInDim S8 32 0 (j.along (0 : Fin 1) k')) == 1#1) (j 0))) = _
  have ha : ∀ k, j.along (0 : Fin 1) k = Shape.Idx.ofFin k := Shape.Idx.along_rank1 j
  simp only [ha]
  exact congrArg (fun f : Fin 8 → Fin 8 => BitVec.ofNat 32 (f (j 0)).val) hs

theorem wrap_word : ∀ v : Fin 8, (if IntOp.cmpi .slt (BitVec.ofNat 32 v.val) 0#32 = 1#1 then IntOp.addi (BitVec.ofNat 32 v.val) 8#32 else BitVec.ofNat 32 v.val)
    = BitVec.ofNat 32 v.val := by decide
theorem word_toInt : ∀ v : Fin 8, min (BitVec.ofNat 32 v.val).toInt.toNat (8 - 1) = v.val := by decide

/-! ## A block's largest magnitude -/

/-- The reduction over a block's two axes, the literal `1e-30` at least, is the block's largest magnitude. -/
theorem ref_amax (X : S8x256x256.Idx → EReal) (d : Fin 8) (j : S8.Idx) (hj : (j 0).val = d.val) :
    max (Host.reduce (FloatOps.maximumf (F := Ideal) (φ := .f32)) (Host.absf (F := Ideal) (φ := .f32) X) (constant (F := Ideal) S_ .f32 0xFF800000#32)
      reducesTo_S8x256x256_S8_d1_2 h_S_ j) tiny = amax (blockOf X d) := by
  unfold amax
  refine congrArg (fun t => max t tiny) ?_
  refine (Host.reduce_eq_fold _ _ _ _ _ _).trans ((fold_max _ _).trans ?_)
  refine le_antisymm (Finset.sup_le fun i hi => ?_) (Finset.sup_le fun i _ => ?_)
  · have h0 : (i 0).val = d.val := by
      have := congrArg (fun t : S8.Idx => (t 0).val) (Finset.mem_filter.mp hi).2
      exact ((reducesTo_S8x256x256_S8_d1_2.drop_apply_val_of_eq i 0 0).symm.trans this).trans hj
    refine le_trans (le_of_eq ?_) (Finset.le_sup (f := fun i => max (blockOf X d i) (-blockOf X d i)) (Finset.mem_univ (inBlock i)))
    show max (X i) (-X i) = max (X (whole d (inBlock i))) (-X (whole d (inBlock i)))
    rw [whole_inBlock d i h0]
  · refine Finset.le_sup (f := fun i => Host.absf (F := Ideal) (φ := .f32) X i) (b := whole d i) (Finset.mem_filter.mpr ⟨Finset.mem_univ _, ?_⟩)
    funext a
    match a with
    | ⟨0, _⟩ =>
      refine Fin.ext ((reducesTo_S8x256x256_S8_d1_2.drop_apply_val_of_eq (whole d i) 0 0).trans ((whole_zero d i).trans hj.symm))

/-! ## The result -/

/-- Reading whole blocks at a column of block numbers. -/
theorem gather_eq {α : Type} (Y : S8x256x256.Idx → α) (idx : IVec S8x1 32) (τ : Fin 8 → Fin 8)
    (hidx : ∀ k : S8x1.Idx, idx k = BitVec.ofNat 32 (τ (k 0)).val) (d : Fin 8) (i : Cert.KernelIdeal.S1x256x256.Idx) :
    Host.gather gather_S8x256x256_S8x1_S8x256x256_12_0_n_n_0_1_1256256 Y idx (whole d i) = Y (whole (τ d) i) := by
  show Y (gather_S8x256x256_S8x1_S8x256x256_12_0_n_n_0_1_1256256.operandIdx (whole d i) idx) = _
  refine congrArg Y (idx_ext ?_ ?_ ?_)
  · rw [whole_zero]
    show min (idx _).toInt.toNat (8 - 1) + 0 + 0 = _
    rw [hidx, word_toInt]
    refine congrArg (fun t => (τ t).val) (Fin.ext ?_)
    exact whole_zero d i
  · rw [whole_one]
    show 0 + 0 + (whole d i 1).val = _
    rw [whole_one]; omega
  · rw [whole_two]
    show 0 + 0 + (whole d i 2).val = _
    rw [whole_two]; omega

/-- Over the extended reals the last cast changes nothing. -/
theorem truncf_at {s : Shape} (x : FVec Ideal s .f32) (h : FTy.bits .bf16 < FTy.bits .f32) (i : s.Idx) :
    truncf (F := Ideal) .bf16 x h i = x i := rfl

/-- Block `d` of the whole array at element `i`, quantised and read back at the block's own largest magnitude. -/
def quantBlock (X : S8x256x256.Idx → EReal) (d : Fin 8) : Cert.KernelIdeal.S1x256x256.Idx → EReal :=
  fun i => requant (amax (blockOf X d)) (blockOf X d i)

/-- The block numbers the reference reads at: a column of words below eight, none of them negative. -/
theorem rows_eq (o : IVec S8 32) (τ : Fin 8 → Fin 8) (ho : ∀ j : S8.Idx, o j = BitVec.ofNat 32 (τ (j 0)).val) (k : S8x1.Idx) :
    broadcastInDim S8x1 ![0] bcast_S8_S8x1_0 (select (cmpi .slt o (broadcastInDim S8 ![] bcast_S_S8 (constantI S_ 32 0#32)))
      (addi o (broadcastInDim S8 ![] bcast_S_S8 (constantI S_ 32 8#32))) o) k = BitVec.ofNat 32 (τ (k 0)).val := by
  have h : ∀ j : S8.Idx, (select (cmpi .slt o (broadcastInDim S8 ![] bcast_S_S8 (constantI S_ 32 0#32)))
      (addi o (broadcastInDim S8 ![] bcast_S_S8 (constantI S_ 32 8#32))) o) j = BitVec.ofNat 32 (τ (j 0)).val := fun j => by
    show (if IntOp.cmpi .slt (o j) 0#32 = 1#1 then IntOp.addi (o j) 8#32 else o j) = _
    rw [ho, wrap_word]
  exact h _

/-- One number for each block. -/
def atBlock (d : Fin 8) : S8x1x1.Idx := fun a =>
  match a with
  | ⟨0, _⟩ => d
  | ⟨1, _⟩ => ⟨0, Nat.one_pos⟩
  | ⟨2, _⟩ => ⟨0, Nat.one_pos⟩

theorem spread_eq (M : S8x1x1.Idx → EReal) (d : Fin 8) (i : Cert.KernelIdeal.S1x256x256.Idx) :
    broadcastInDim S8x256x256 ![0, 1, 2] bcast_S8x1x1_S8x256x256_0_1_2 M (whole d i) = M (atBlock d) := by
  unfold broadcastInDim
  refine congrArg M (funext fun a => ?_)
  match a with
  | ⟨0, _⟩ => exact Fin.ext (whole_zero d i)
  | ⟨1, _⟩ => exact Fin.ext rfl
  | ⟨2, _⟩ => exact Fin.ext rfl

/-- Quantising at a magnitude for each block and reading back, at one element. -/
theorem levels_eq (X : FVec Ideal S8x256x256 .f32) (M : FVec Ideal S8x1x1 .f32) (d : Fin 8) (i : Cert.KernelIdeal.S1x256x256.Idx) :
    mulf (Host.roundeven (mulf X (broadcastInDim S8x256x256 ![0, 1, 2] bcast_S8x1x1_S8x256x256_0_1_2
      (Host.divf (broadcastInDim S8x1x1 ![] bcast_S_S8x1x1 (constant S_ .f32 0x42FE0000#32)) M))))
      (broadcastInDim S8x256x256 ![0, 1, 2] bcast_S8x1x1_S8x256x256_0_1_2
        (Host.divf M (broadcastInDim S8x1x1 ![] bcast_S_S8x1x1 (constant S_ .f32 0x42FE0000#32)))) (whole d i)
      = requant (M (atBlock d)) (X (whole d i)) :=
  congrArg₂ (fun a b => Ideal.liftRound Ideal.roundHalfEven (X (whole d i) * a) * b) (spread_eq _ d i) (spread_eq _ d i)

/-- The reference's magnitude of a block. -/
theorem magn_eq (X : S8x256x256.Idx → EReal) (d : Fin 8) :
    maximumf (F := Ideal) (φ := .f32) (broadcastInDim S8x1x1 ![0] bcast_S8_S8x1x1_0
      (Host.reduce (FloatOps.maximumf (F := Ideal) (φ := .f32)) (Host.absf (F := Ideal) (φ := .f32) X)
        (constant (F := Ideal) S_ .f32 0xFF800000#32) reducesTo_S8x256x256_S8_d1_2 h_S_))
      (broadcastInDim S8x1x1 ![] bcast_S_S8x1x1 (constant (F := Ideal) S_ .f32 0x0DA24260#32)) (atBlock d) = amax (blockOf X d) :=
  ref_amax X d _ rfl

/-- Every run of the reference ends with, in block `d` of its result, block `σ⁻¹ d` of its argument quantised and read back. -/
theorem ref_run (σ : Equiv.Perm (Fin 8)) (m : (ℓ : Loc nD τ sig) → Buf (Elt Ideal) ℓ) (ρ : Dev nD → PrngReg)
    (hT : ∀ c : Dev nD, Lists σ (m ((c.tc : Thread nD τ).loc main_arg1))) :
    θ_run defs (onTc (τ := τ) (main (F := Ideal))) ⟨m, fun _ => 0, ρ⟩ fun r => ∀ c : Dev nD,
      (∀ d : Fin 8, blockOf (r.2.mem ((c.tc : Thread nD τ).loc main_v23)) d = quantBlock (m ((c.tc : Thread nD τ).loc main_arg0)) (σ.symm d))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨fun d => ?_, (h c).2⟩) (Cert.ReferenceIdeal.Value.run (F := Ideal) m ρ)
  funext i
  refine (congrFun (h c).1 (whole d i)).trans ?_
  refine (truncf_at _ _ _).trans ?_
  refine (gather_eq (α := EReal) _ _ σ.symm (rows_eq _ _ (order_eq σ _ (hT c))) d i).trans ?_
  refine (levels_eq _ _ (σ.symm d) i).trans ?_
  exact congrArg (fun a => requant a (m ((c.tc : Thread nD τ).loc main_arg0) (whole (σ.symm d) i))) (magn_eq _ _)

end Cert.Shuffle

end
-- ==== Proof.Claims.lean ====
/-
# Tables, frames and the value

A precondition fixes the table; the table lists a rotation; and for every permutation a table may list, the kernel's result on
device `c` is block `c` of the reference's.
-/
module

public import proofs.«01_k».proof.Defs
public import proofs.«01_k».proof.Proof.Final
public import proofs.«01_k».proof.Proof.Value
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.Pre_rolled_by_1_Kernel
public import proofs.«01_k».proof.Proof.Gen.Pre_rolled_by_1_ReferenceIdeal
public import proofs.«01_k».proof.Proof.Gen.Pre_rolled_by_2_Kernel
public import proofs.«01_k».proof.Proof.Gen.Pre_rolled_by_2_ReferenceIdeal
public import proofs.«01_k».proof.Proof.Gen.Pre_rolled_by_3_Kernel
public import proofs.«01_k».proof.Proof.Gen.Pre_rolled_by_3_ReferenceIdeal
public import proofs.«01_k».proof.Proof.Gen.Pre_rolled_by_4_Kernel
public import proofs.«01_k».proof.Proof.Gen.Pre_rolled_by_4_ReferenceIdeal
public import proofs.«01_k».proof.Proof.Gen.Pre_rolled_by_5_Kernel
public import proofs.«01_k».proof.Proof.Gen.Pre_rolled_by_5_ReferenceIdeal
public import proofs.«01_k».proof.Proof.Gen.Pre_rolled_by_6_Kernel
public import proofs.«01_k».proof.Proof.Gen.Pre_rolled_by_6_ReferenceIdeal
public import proofs.«01_k».proof.Proof.Gen.Pre_rolled_by_7_Kernel
public import proofs.«01_k».proof.Proof.Gen.Pre_rolled_by_7_ReferenceIdeal

@[expose] public section

noncomputable section

namespace Cert.Shuffle

open Idealize.ShloMosaic Idealize.ShloMosaic.TcCoe

/-- The permutation that sends every device `k` places on. -/
def turn (k : Fin 8) : Equiv.Perm (Fin 8) := Equiv.addRight k

/-- A comparison for equality that says yes. -/
theorem eq_of_cmpi {a b : BitVec 32} (h : IntOp.cmpi .eq a b = 1#1) : a = b := by
  by_contra hn
  have : (a == b) = false := by simpa using hn
  unfold IntOp.cmpi at h
  simp only [this] at h
  exact absurd h (by decide)

/-- A table that compares equal, entry by entry, to one that lists `σ` lists `σ`. -/
theorem lists_of {σ : Equiv.Perm (Fin 8)} {ts t : Cert.KernelIdeal.S8.Idx → BitVec 32} (h : (fun i => IntOp.cmpi .eq (ts i) (t i)) = fun _ => 1#1)
    (ht : Lists σ t) : Lists σ ts := fun j => (eq_of_cmpi (congrFun h (i8 j))).trans (ht j)

/-! The tables of the preconditions: the device numbers rolled by `k` places, so entry `j` is `j - k`, that is `j + (8 - k)`. -/

section Tables

variable {F : FTy → Type} [FloatOps F] (x : FVec F ⟨3, ![1, 256, 256]⟩ .bf16) (ts : IVec Cert.KernelIdeal.S8 32)

theorem lists_1 (h : Cert.Pre_rolled_by_1_Kernel.fn (F := F) x ts = fun _ => 1#1) : Lists (turn 7) ts :=
  lists_of h (fun j => by fin_cases j <;> rfl)

theorem lists_2 (h : Cert.Pre_rolled_by_2_Kernel.fn (F := F) x ts = fun _ => 1#1) : Lists (turn 6) ts :=
  lists_of h (fun j => by fin_cases j <;> rfl)

theorem lists_3 (h : Cert.Pre_rolled_by_3_Kernel.fn (F := F) x ts = fun _ => 1#1) : Lists (turn 5) ts :=
  lists_of h (fun j => by fin_cases j <;> rfl)

theorem lists_4 (h : Cert.Pre_rolled_by_4_Kernel.fn (F := F) x ts = fun _ => 1#1) : Lists (turn 4) ts :=
  lists_of h (fun j => by fin_cases j <;> rfl)

theorem lists_5 (h : Cert.Pre_rolled_by_5_Kernel.fn (F := F) x ts = fun _ => 1#1) : Lists (turn 3) ts :=
  lists_of h (fun j => by fin_cases j <;> rfl)

theorem lists_6 (h : Cert.Pre_rolled_by_6_Kernel.fn (F := F) x ts = fun _ => 1#1) : Lists (turn 2) ts :=
  lists_of h (fun j => by fin_cases j <;> rfl)

theorem lists_7 (h : Cert.Pre_rolled_by_7_Kernel.fn (F := F) x ts = fun _ => 1#1) : Lists (turn 1) ts :=
  lists_of h (fun j => by fin_cases j <;> rfl)

end Tables

/-! ## The runs, for any permutation -/

/-- The program read over the machine's floats and the program read over the extended reals are one text: the bodies, -/
theorem bodies_eq : (Cert.Kernel.defs₀ (F := Bits)) = (Cert.KernelIdeal.defs₀ (F := Bits)) := by
  funext p ℓ a
  match p with
  | .tc =>
    match ℓ with
    | 0 => rfl
  | .scScalar _ => rfl
  | .scVector _ _ => rfl

/-- the calls around them, -/
theorem calls_eq : (Cert.Kernel.defs (F := Bits)) = (Cert.KernelIdeal.defs (F := Bits)) :=
  congrArg (Pipeline.defs Cert.KernelIdeal.pcfgs) bodies_eq

/-- and the entry. -/
theorem entry_eq : (Cert.Kernel.main (F := Bits)) = (Cert.KernelIdeal.main (F := Bits)) := rfl

/-- The kernel at the machine's own floats. -/
theorem frame_kernel (σ : Equiv.Perm (Fin 8)) (m : (ℓ : Loc Cert.Kernel.nD Cert.Kernel.τ Cert.Kernel.sig) → Buf (Elt Bits) ℓ) (ρ : Dev Cert.Kernel.nD → PrngReg)
    (hT : ∀ c : Dev Cert.Kernel.nD, Lists σ (m ((c.tc : Thread Cert.Kernel.nD Cert.Kernel.τ).loc Cert.Kernel.main_arg1))) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  by
  rw [calls_eq, entry_eq]
  exact (θ_run Cert.KernelIdeal.defs _ _).mono (fun _ h => ⟨fun c => (h.1 c).2, h.2⟩) (run (F := Bits) σ m ρ hT)

/-- The kernel over the extended reals. -/
theorem frame_kernelIdeal (σ : Equiv.Perm (Fin 8)) (m : (ℓ : Loc Cert.KernelIdeal.nD Cert.KernelIdeal.τ Cert.KernelIdeal.sig) → Buf (Elt Ideal) ℓ) (ρ : Dev Cert.KernelIdeal.nD → PrngReg)
    (hT : ∀ c : Dev Cert.KernelIdeal.nD, Lists σ (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run (F := Ideal) σ m ρ hT)

/-- The kernel and the reference over the extended reals: the reference's result is the claim's value, and device `c` of the
    kernel holds its block `c`. -/
theorem value (σ : Equiv.Perm (Fin 8)) (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hT : ∀ c : Dev Cert.KernelIdeal.nD, Lists σ (m ((c.tc : Thread Cert.KernelIdeal.nD Cert.KernelIdeal.τ).loc Cert.KernelIdeal.main_arg1)))
    (hm : ∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  obtain ⟨v0, hv⟩ : ∃ v0 : Cert.ReferenceIdeal.S8x256x256.Idx → EReal, ∀ d : Fin 8, blockOf v0 d
      = quantBlock (m' (((0 : Dev Cert.ReferenceIdeal.nD).tc : Thread Cert.ReferenceIdeal.nD Cert.ReferenceIdeal.τ).loc Cert.ReferenceIdeal.main_arg0)) (σ.symm d) :=
    ⟨fun i => quantBlock (m' (((0 : Dev Cert.ReferenceIdeal.nD).tc : Thread Cert.ReferenceIdeal.nD Cert.ReferenceIdeal.τ).loc Cert.ReferenceIdeal.main_arg0)) (σ.symm (i 0)) (inBlock i), fun d => funext fun i => by
      show quantBlock _ (σ.symm (whole d i 0)) (inBlock (whole d i)) = _
      have h0 : whole d i 0 = d := Fin.ext (whole_zero d i)
      have h1 : inBlock (whole d i) = i := by
        funext a
        match a with
        | ⟨0, _⟩ => exact Subsingleton.elim (α := Fin 1) _ _
        | ⟨1, _⟩ => exact Fin.ext (whole_one d i)
        | ⟨2, _⟩ => exact Fin.ext (whole_two d i)
      rw [h1]; exact congrArg (fun t => quantBlock _ (σ.symm t) i) h0⟩
  refine ⟨v0, ?_, ?_⟩
  · refine (θ_run Cert.KernelIdeal.defs _ _).mono (fun _ h c => ⟨(h.1 c).1.trans ?_, (h.1 c).2⟩) (run (F := Ideal) σ m g hT)
    refine Eq.trans ?_ (hv c).symm
    rw [(hm (σ.symm c)).1]
    exact outOf_eq _
  · have hT' : ∀ c : Dev Cert.ReferenceIdeal.nD, Lists σ (m' ((c.tc : Thread Cert.ReferenceIdeal.nD Cert.ReferenceIdeal.τ).loc Cert.ReferenceIdeal.main_arg1)) := fun c => by
      obtain rfl : c = 0 := Subsingleton.elim (α := Fin 1) _ _
      have h := hT 0
      rw [(hm 0).2] at h
      exact h
    refine (θ_run Cert.ReferenceIdeal.defs _ _).mono (fun _ h => ⟨?_, (h 0).2⟩) (ref_run σ m' g' hT')
    funext i
    have e := (((h 0).1 (i 0)).trans (hv (i 0)).symm)
    have e' := congrFun e (inBlock i)
    have w : whole (i 0) (inBlock i) = i := whole_inBlock (i 0) i rfl
    have e'' : _ = v0 (whole (i 0) (inBlock i)) := e'
    rw [w] at e''
    refine Eq.trans ?_ e''
    refine (congrArg _ w).symm

/-- The reference runs from any memory. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

end Cert.Shuffle

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rolled_by_1_Kernel
public import proofs.«01_k».proof.Proof.Gen.Pre_rolled_by_1_ReferenceIdeal
public import proofs.«01_k».proof.Proof.Gen.Pre_rolled_by_2_Kernel
public import proofs.«01_k».proof.Proof.Gen.Pre_rolled_by_2_ReferenceIdeal
public import proofs.«01_k».proof.Proof.Gen.Pre_rolled_by_3_Kernel
public import proofs.«01_k».proof.Proof.Gen.Pre_rolled_by_3_ReferenceIdeal
public import proofs.«01_k».proof.Proof.Gen.Pre_rolled_by_4_Kernel
public import proofs.«01_k».proof.Proof.Gen.Pre_rolled_by_4_ReferenceIdeal
public import proofs.«01_k».proof.Proof.Gen.Pre_rolled_by_5_Kernel
public import proofs.«01_k».proof.Proof.Gen.Pre_rolled_by_5_ReferenceIdeal
public import proofs.«01_k».proof.Proof.Gen.Pre_rolled_by_6_Kernel
public import proofs.«01_k».proof.Proof.Gen.Pre_rolled_by_6_ReferenceIdeal
public import proofs.«01_k».proof.Proof.Gen.Pre_rolled_by_7_Kernel
public import proofs.«01_k».proof.Proof.Gen.Pre_rolled_by_7_ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Shuffle

theorem claim : Cert.Claim := ⟨Cert.Kernel.Gen.facts, Cert.KernelIdeal.Gen.facts, Cert.ReferenceIdeal.Gen.facts,
  Cert.Pre_rolled_by_1_Kernel.Gen.facts, Cert.Pre_rolled_by_2_Kernel.Gen.facts, Cert.Pre_rolled_by_3_Kernel.Gen.facts, Cert.Pre_rolled_by_4_Kernel.Gen.facts,
  Cert.Pre_rolled_by_5_Kernel.Gen.facts, Cert.Pre_rolled_by_6_Kernel.Gen.facts, Cert.Pre_rolled_by_7_Kernel.Gen.facts,
  Cert.Pre_rolled_by_1_ReferenceIdeal.Gen.facts, Cert.Pre_rolled_by_2_ReferenceIdeal.Gen.facts, Cert.Pre_rolled_by_3_ReferenceIdeal.Gen.facts, Cert.Pre_rolled_by_4_ReferenceIdeal.Gen.facts,
  Cert.Pre_rolled_by_5_ReferenceIdeal.Gen.facts, Cert.Pre_rolled_by_6_ReferenceIdeal.Gen.facts, Cert.Pre_rolled_by_7_ReferenceIdeal.Gen.facts,
  fun m g h => frame_kernel (turn 7) m g fun c => lists_1 (F := Bits) _ _ (h c),
  fun m g h => frame_kernel (turn 6) m g fun c => lists_2 (F := Bits) _ _ (h c),
  fun m g h => frame_kernel (turn 5) m g fun c => lists_3 (F := Bits) _ _ (h c),
  fun m g h => frame_kernel (turn 4) m g fun c => lists_4 (F := Bits) _ _ (h c),
  fun m g h => frame_kernel (turn 3) m g fun c => lists_5 (F := Bits) _ _ (h c),
  fun m g h => frame_kernel (turn 2) m g fun c => lists_6 (F := Bits) _ _ (h c),
  fun m g h => frame_kernel (turn 1) m g fun c => lists_7 (F := Bits) _ _ (h c),
  fun m g h => frame_kernelIdeal (turn 7) m g fun c => lists_1 (F := Ideal) _ _ (h c),
  fun m g h => frame_kernelIdeal (turn 6) m g fun c => lists_2 (F := Ideal) _ _ (h c),
  fun m g h => frame_kernelIdeal (turn 5) m g fun c => lists_3 (F := Ideal) _ _ (h c),
  fun m g h => frame_kernelIdeal (turn 4) m g fun c => lists_4 (F := Ideal) _ _ (h c),
  fun m g h => frame_kernelIdeal (turn 3) m g fun c => lists_5 (F := Ideal) _ _ (h c),
  fun m g h => frame_kernelIdeal (turn 2) m g fun c => lists_6 (F := Ideal) _ _ (h c),
  fun m g h => frame_kernelIdeal (turn 1) m g fun c => lists_7 (F := Ideal) _ _ (h c),
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  trivial,
  fun m g m' g' h hm => value (turn 7) m g m' g' (fun c => lists_1 (F := Ideal) _ _ (h c)) hm,
  fun m g m' g' h hm => value (turn 6) m g m' g' (fun c => lists_2 (F := Ideal) _ _ (h c)) hm,
  fun m g m' g' h hm => value (turn 5) m g m' g' (fun c => lists_3 (F := Ideal) _ _ (h c)) hm,
  fun m g m' g' h hm => value (turn 4) m g m' g' (fun c => lists_4 (F := Ideal) _ _ (h c)) hm,
  fun m g m' g' h hm => value (turn 3) m g m' g' (fun c => lists_5 (F := Ideal) _ _ (h c)) hm,
  fun m g m' g' h hm => value (turn 2) m g m' g' (fun c => lists_6 (F := Ideal) _ _ (h c)) hm,
  fun m g m' g' h hm => value (turn 1) m g m' g' (fun c => lists_7 (F := Ideal) _ _ (h c)) hm⟩

end Cert.Proof

end
